-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_norms_nonzero [hPre_norms_nonzero : Cert.Pre_norms_nonzero.Facts] (m : (ℓ : Loc Cert.KernelIdeal.nD Cert.KernelIdeal.τ Cert.KernelIdeal.sig) → Buf (Elt Ideal) ℓ) : Prop :=
  ∀ c : Dev Cert.KernelIdeal.nD,
    (Cert.Pre_norms_nonzero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_norms_nonzero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_norms_nonzero [hPre_norms_nonzero : Cert.Pre_norms_nonzero.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_norms_nonzero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_norms_nonzero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_norms_nonzero [hKernelIdeal : Cert.KernelIdeal.Facts] [hPre_norms_nonzero : Cert.Pre_norms_nonzero.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_norms_nonzero m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_norms_nonzero [hReferenceIdeal : Cert.ReferenceIdeal.Facts] [hPre_norms_nonzero : Cert.Pre_norms_nonzero.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_norms_nonzero m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "inv_shw" .f32 0x3A85BF37#32 ((1 / 980 : ℝ) : EReal)
  ∧ IdealRules.named_const.Statement Cert.KernelIdeal.κ "eps_sq" .f32 0x179ABE15#32 ((5316911940649 / 5316911983139663491615228241121378304 : ℝ) : EReal)
  ∧ IdealRules.named_const.Statement Cert.KernelIdeal.κ "inv_hw" .f32 0x3BA72F05#32 ((1 / 196 : ℝ) : EReal)
  ∧ IdealRules.named_const.Statement Cert.KernelIdeal.κ "inv_k" .f32 0x3E4CCCCD#32 ((1 / 5 : ℝ) : EReal)

def algebraic_KernelIdeal_ReferenceIdeal_pre_norms_nonzero [hKernelIdeal : Cert.KernelIdeal.Facts] [hReferenceIdeal : Cert.ReferenceIdeal.Facts] [hPre_norms_nonzero : Cert.Pre_norms_nonzero.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_norms_nonzero m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_norms_nonzero : Cert.Pre_norms_nonzero.Facts),
    quiescent_Kernel (hKernel := hKernel)
    ∧ quiescent_KernelIdeal (hKernelIdeal := hKernelIdeal)
    ∧ quiescent_KernelIdeal_pre_norms_nonzero (hKernelIdeal := hKernelIdeal) (hPre_norms_nonzero := hPre_norms_nonzero)
    ∧ quiescent_ReferenceIdeal (hReferenceIdeal := hReferenceIdeal)
    ∧ quiescent_ReferenceIdeal_pre_norms_nonzero (hReferenceIdeal := hReferenceIdeal) (hPre_norms_nonzero := hPre_norms_nonzero)
    ∧ preserves_Kernel_KernelIdeal
    ∧ algebraic_KernelIdeal_ReferenceIdeal_pre_norms_nonzero (hKernelIdeal := hKernelIdeal) (hReferenceIdeal := hReferenceIdeal) (hPre_norms_nonzero := hPre_norms_nonzero)
-- ==== Pre_norms_nonzero.lean ====
abbrev S1x5x5x3x224x224 : Shape := ⟨6, ![1, 5, 5, 3, 224, 224]⟩
abbrev S1x75x3x224x224 : Shape := ⟨5, ![1, 75, 3, 224, 224]⟩
abbrev S384x3x16x16 : Shape := ⟨4, ![384, 3, 16, 16]⟩
abbrev S384 : Shape := ⟨1, ![384]⟩
abbrev S1 : Shape := ⟨1, ![1]⟩
abbrev S25x3x224x224 : Shape := ⟨4, ![25, 3, 224, 224]⟩
abbrev S75x3x224x224 : Shape := ⟨4, ![75, 3, 224, 224]⟩
abbrev S100x3x224x224 : Shape := ⟨4, ![100, 3, 224, 224]⟩
abbrev S100x3x14x16x14x16 : Shape := ⟨6, ![100, 3, 14, 16, 14, 16]⟩
abbrev S384x100x14x14 : Shape := ⟨4, ![384, 100, 14, 14]⟩
abbrev S100x384x14x14 : Shape := ⟨4, ![100, 384, 14, 14]⟩
abbrev S1x384x1x1 : Shape := ⟨4, ![1, 384, 1, 1]⟩
abbrev S_ : Shape := ⟨0, ![]⟩
abbrev S25x384x14x14 : Shape := ⟨4, ![25, 384, 14, 14]⟩
abbrev S1x5x5x384x196 : Shape := ⟨5, ![1, 5, 5, 384, 196]⟩
abbrev S75x384x14x14 : Shape := ⟨4, ![75, 384, 14, 14]⟩
abbrev S1x75x384x196 : Shape := ⟨4, ![1, 75, 384, 196]⟩
abbrev S1x5x5x196x384 : Shape := ⟨5, ![1, 5, 5, 196, 384]⟩
abbrev S1x5x980x384 : Shape := ⟨4, ![1, 5, 980, 384]⟩
abbrev S1x75x196x384 : Shape := ⟨4, ![1, 75, 196, 384]⟩
abbrev S1x75x196 : Shape := ⟨3, ![1, 75, 196]⟩
abbrev S1x75x196x1 : Shape := ⟨4, ![1, 75, 196, 1]⟩
abbrev S1x5x384 : Shape := ⟨3, ![1, 5, 384]⟩
abbrev S1x5x1x384 : Shape := ⟨4, ![1, 5, 1, 384]⟩

class Facts : Prop where
  shapeCasts_S1x5x5x3x224x224_S25x3x224x224 : S1x5x5x3x224x224.ShapeCasts S25x3x224x224
  shapeCasts_S1x75x3x224x224_S75x3x224x224 : S1x75x3x224x224.ShapeCasts S75x3x224x224
  concatenates_S25x3x224x224_S75x3x224x224_S100x3x224x224_d0 : Shape.Concatenates [S25x3x224x224, S75x3x224x224] S100x3x224x224 0
  shapeCasts_S100x3x224x224_S100x3x14x16x14x16 : S100x3x224x224.ShapeCasts S100x3x14x16x14x16
  transposes_S384x100x14x14_S100x384x14x14_1_0_2_3 : S384x100x14x14.Transposes [1, 0, 2, 3] S100x384x14x14
  bcast_S384_S1x384x1x1_1 : S384.BroadcastsInDim S1x384x1x1 (![1] : Fin 1 → Fin S1x384x1x1.rank)
  bcast_S1x384x1x1_S100x384x14x14_0_1_2_3 : S1x384x1x1.BroadcastsInDim S100x384x14x14 (![0, 1, 2, 3] : Fin 4 → Fin S100x384x14x14.rank)
  bcast_S_S100x384x14x14 : S_.BroadcastsInDim S100x384x14x14 (![] : Fin 0 → Fin S100x384x14x14.rank)
  slices_S100x384x14x14_S25x384x14x14_0_0_0_0 : S100x384x14x14.Slices ![0, 0, 0, 0] S25x384x14x14
  shapeCasts_S25x384x14x14_S1x5x5x384x196 : S25x384x14x14.ShapeCasts S1x5x5x384x196
  slices_S100x384x14x14_S75x384x14x14_25_0_0_0 : S100x384x14x14.Slices ![25, 0, 0, 0] S75x384x14x14
  shapeCasts_S75x384x14x14_S1x75x384x196 : S75x384x14x14.ShapeCasts S1x75x384x196
  transposes_S1x5x5x384x196_S1x5x5x196x384_0_1_2_4_3 : S1x5x5x384x196.Transposes [0, 1, 2, 4, 3] S1x5x5x196x384
  shapeCasts_S1x5x5x196x384_S1x5x980x384 : S1x5x5x196x384.ShapeCasts S1x5x980x384
  transposes_S1x75x384x196_S1x75x196x384_0_1_3_2 : S1x75x384x196.Transposes [0, 1, 3, 2] S1x75x196x384
  reducesTo_S1x75x196x384_S1x75x196_d3 : S1x75x196x384.ReducesTo [3] S1x75x196
  h_S_ : 0 < S_.numel
  bcast_S1x75x196_S1x75x196x1_0_1_2 : S1x75x196.BroadcastsInDim S1x75x196x1 (![0, 1, 2] : Fin 3 → Fin S1x75x196x1.rank)
  bcast_S_S1x75x196x1 : S_.BroadcastsInDim S1x75x196x1 (![] : Fin 0 → Fin S1x75x196x1.rank)
  reducesTo_S1x5x980x384_S1x5x384_d2 : S1x5x980x384.ReducesTo [2] S1x5x384
  bcast_S1x5x384_S1x5x1x384_0_1_3 : S1x5x384.BroadcastsInDim S1x5x1x384 (![0, 1, 3] : Fin 3 → Fin S1x5x1x384.rank)
  bcast_S_S1x5x1x384 : S_.BroadcastsInDim S1x5x1x384 (![] : Fin 0 → Fin S1x5x1x384.rank)
  dot_S384x3x16x16_S100x3x14x16x14x16_S384x100x14x14_123_135_0_024_n_n_wf : DotDims.WF S384x3x16x16 S100x3x14x16x14x16 S384x100x14x14 [1, 2, 3] [1, 3, 5] [0] [0, 2, 4] [] []

variable [Facts]

def dot_S384x3x16x16_S100x3x14x16x14x16_S384x100x14x14_123_135_0_024_n_n : DotDims S384x3x16x16 S100x3x14x16x14x16 S384x100x14x14 where
  lhsContracting := [1, 2, 3]
  rhsContracting := [1, 3, 5]
  lhsNonContracting := [0]
  rhsNonContracting := [0, 2, 4]
  lhsBatch := []
  rhsBatch := []
  wf := dot_S384x3x16x16_S100x3x14x16x14x16_S384x100x14x14_123_135_0_024_n_n_wf
def fn_part1 {F : FTy → Type} [FloatOps F] (main_v16 : FVec F S1x5x980x384 .f32) (main_v20 : FVec F S1x75x196x1 .f32) (main_cst_1 : FVec F S_ .f32) : IVec S1x75x196x1 1 × IVec S1x5x1x384 1 :=
  let main_v21 : FVec F S1x75x196x1 .f32 := broadcastInDim S1x75x196x1 ![] bcast_S_S1x75x196x1 main_cst_1
  let main_v22 : IVec S1x75x196x1 1 := cmpf .ogt main_v20 main_v21
  let main_v23 : FVec F S1x5x980x384 .f32 := mulf main_v16 main_v16
  let main_cst_2 : FVec F S_ .f32 := constant S_ .f32 0x00000000#32
  let main_v24 : FVec F S1x5x384 .f32 := (fun x v => Host.reduceAdd x v reducesTo_S1x5x980x384_S1x5x384_d2 h_S_) main_v23 main_cst_2
  let main_v25 : FVec F S1x5x1x384 .f32 := broadcastInDim S1x5x1x384 ![0, 1, 3] bcast_S1x5x384_S1x5x1x384_0_1_3 main_v24
  let main_cst_3 : FVec F S_ .f32 := constant S_ .f32 0x00000000#32
  let main_v26 : FVec F S1x5x1x384 .f32 := broadcastInDim S1x5x1x384 ![] bcast_S_S1x5x1x384 main_cst_3
  let main_v27 : IVec S1x5x1x384 1 := cmpf .ogt main_v25 main_v26
  (main_v22, main_v27)

def fn {F : FTy → Type} [FloatOps F] (main_arg0 : FVec F S1x5x5x3x224x224 .f32) (main_arg1 : FVec F S1x75x3x224x224 .f32) (main_arg2 : FVec F S384x3x16x16 .f32) (main_arg3 : FVec F S384 .f32) (main_arg4 : FVec F S1 .f32) (main_arg5 : FVec F S1 .f32) : IVec S1x75x196x1 1 × IVec S1x5x1x384 1 :=
  let main_v0 : FVec F S25x3x224x224 .f32 := shapeCast S25x3x224x224 main_arg0 shapeCasts_S1x5x5x3x224x224_S25x3x224x224
  let main_v1 : FVec F S75x3x224x224 .f32 := shapeCast S75x3x224x224 main_arg1 shapeCasts_S1x75x3x224x224_S75x3x224x224
  let main_v2 : FVec F S100x3x224x224 .f32 := (fun a b => concatenate S100x3x224x224 0 [⟨S25x3x224x224, a⟩, ⟨S75x3x224x224, b⟩] concatenates_S25x3x224x224_S75x3x224x224_S100x3x224x224_d0) main_v0 main_v1
  let main_v3 : FVec F S100x3x14x16x14x16 .f32 := shapeCast S100x3x14x16x14x16 main_v2 shapeCasts_S100x3x224x224_S100x3x14x16x14x16
  let main_v4 : FVec F S384x100x14x14 .f32 := (fun l r => Host.dotGeneral dot_S384x3x16x16_S100x3x14x16x14x16_S384x100x14x14_123_135_0_024_n_n none l r) main_arg2 main_v3
  let main_v5 : FVec F S100x384x14x14 .f32 := (transpose S100x384x14x14 [1, 0, 2, 3] · transposes_S384x100x14x14_S100x384x14x14_1_0_2_3) main_v4
  let main_v6 : FVec F S1x384x1x1 .f32 := broadcastInDim S1x384x1x1 ![1] bcast_S384_S1x384x1x1_1 main_arg3
  let main_v7 : FVec F S100x384x14x14 .f32 := broadcastInDim S100x384x14x14 ![0, 1, 2, 3] bcast_S1x384x1x1_S100x384x14x14_0_1_2_3 main_v6
  let main_v8 : FVec F S100x384x14x14 .f32 := addf main_v5 main_v7
  let main_cst : FVec F S_ .f32 := constant S_ .f32 0x00000000#32
  let main_v9 : FVec F S100x384x14x14 .f32 := broadcastInDim S100x384x14x14 ![] bcast_S_S100x384x14x14 main_cst
  let main_v10 : FVec F S100x384x14x14 .f32 := maximumf main_v8 main_v9
  let main_v11 : FVec F S25x384x14x14 .f32 := (extractStridedSlice S25x384x14x14 ![0, 0, 0, 0] · slices_S100x384x14x14_S25x384x14x14_0_0_0_0) main_v10
  let main_v12 : FVec F S1x5x5x384x196 .f32 := shapeCast S1x5x5x384x196 main_v11 shapeCasts_S25x384x14x14_S1x5x5x384x196
  let main_v13 : FVec F S75x384x14x14 .f32 := (extractStridedSlice S75x384x14x14 ![25, 0, 0, 0] · slices_S100x384x14x14_S75x384x14x14_25_0_0_0) main_v10
  let main_v14 : FVec F S1x75x384x196 .f32 := shapeCast S1x75x384x196 main_v13 shapeCasts_S75x384x14x14_S1x75x384x196
  let main_v15 : FVec F S1x5x5x196x384 .f32 := (transpose S1x5x5x196x384 [0, 1, 2, 4, 3] · transposes_S1x5x5x384x196_S1x5x5x196x384_0_1_2_4_3) main_v12
  let main_v16 : FVec F S1x5x980x384 .f32 := shapeCast S1x5x980x384 main_v15 shapeCasts_S1x5x5x196x384_S1x5x980x384
  let main_v17 : FVec F S1x75x196x384 .f32 := (transpose S1x75x196x384 [0, 1, 3, 2] · transposes_S1x75x384x196_S1x75x196x384_0_1_3_2) main_v14
  let main_v18 : FVec F S1x75x196x384 .f32 := mulf main_v17 main_v17
  let main_cst_0 : FVec F S_ .f32 := constant S_ .f32 0x00000000#32
  let main_v19 : FVec F S1x75x196 .f32 := (fun x v => Host.reduceAdd x v reducesTo_S1x75x196x384_S1x75x196_d3 h_S_) main_v18 main_cst_0
  let main_v20 : FVec F S1x75x196x1 .f32 := broadcastInDim S1x75x196x1 ![0, 1, 2] bcast_S1x75x196_S1x75x196x1_0_1_2 main_v19
  let main_cst_1 : FVec F S_ .f32 := constant S_ .f32 0x00000000#32
  fn_part1 (F := F) main_v16 main_v20 main_cst_1
-- ==== Kernel.lean ====
abbrev S1x5x5x3x224x224 : Shape := ⟨6, ![1, 5, 5, 3, 224, 224]⟩
abbrev S1x75x3x224x224 : Shape := ⟨5, ![1, 75, 3, 224, 224]⟩
abbrev S384x3x16x16 : Shape := ⟨4, ![384, 3, 16, 16]⟩
abbrev S384 : Shape := ⟨1, ![384]⟩
abbrev S1 : Shape := ⟨1, ![1]⟩
abbrev S25x3x224x224 : Shape := ⟨4, ![25, 3, 224, 224]⟩
abbrev S75x3x224x224 : Shape := ⟨4, ![75, 3, 224, 224]⟩
abbrev S_ : Shape := ⟨0, ![]⟩
abbrev S80x3x224x224 : Shape := ⟨4, ![80, 3, 224, 224]⟩
abbrev S25x3x14x16x14x16 : Shape := ⟨6, ![25, 3, 14, 16, 14, 16]⟩
abbrev S25x14x14x3x16x16 : Shape := ⟨6, ![25, 14, 14, 3, 16, 16]⟩
abbrev S4900x768 : Shape := ⟨2, ![4900, 768]⟩
abbrev S80x3x14x16x14x16 : Shape := ⟨6, ![80, 3, 14, 16, 14, 16]⟩
abbrev S80x14x14x3x16x16 : Shape := ⟨6, ![80, 14, 14, 3, 16, 16]⟩
abbrev S15680x768 : Shape := ⟨2, ![15680, 768]⟩
abbrev S384x768 : Shape := ⟨2, ![384, 768]⟩
abbrev S768x384 : Shape := ⟨2, ![768, 384]⟩
abbrev S1x384 : Shape := ⟨2, ![1, 384]⟩
abbrev S5x984x384 : Shape := ⟨3, ![5, 984, 384]⟩
abbrev S5x8x384 : Shape := ⟨3, ![5, 8, 384]⟩
abbrev S4900x384 : Shape := ⟨2, ![4900, 384]⟩
abbrev S980x384 : Shape := ⟨2, ![980, 384]⟩
abbrev S4x384 : Shape := ⟨2, ![4, 384]⟩
abbrev S984x384 : Shape := ⟨2, ![984, 384]⟩
abbrev S1x984x384 : Shape := ⟨3, ![1, 984, 384]⟩
abbrev S1x1x384 : Shape := ⟨3, ![1, 1, 384]⟩
abbrev S1x1x1 : Shape := ⟨3, ![1, 1, 1]⟩
abbrev S8x384 : Shape := ⟨2, ![8, 384]⟩
abbrev S1x8x384 : Shape := ⟨3, ![1, 8, 384]⟩
abbrev S384x16000 : Shape := ⟨2, ![384, 16000]⟩
abbrev S5x8x3200 : Shape := ⟨3, ![5, 8, 3200]⟩
abbrev S5x16x384 : Shape := ⟨3, ![5, 16, 384]⟩
abbrev S3136x768 : Shape := ⟨2, ![3136, 768]⟩
abbrev S384x3200 : Shape := ⟨2, ![384, 3200]⟩
abbrev S1x8x3200 : Shape := ⟨3, ![1, 8, 3200]⟩
abbrev S1x16x384 : Shape := ⟨3, ![1, 16, 384]⟩
abbrev S3136x384 : Shape := ⟨2, ![3136, 384]⟩
abbrev S384x3136 : Shape := ⟨2, ![384, 3136]⟩
abbrev S384x64 : Shape := ⟨2, ![384, 64]⟩
abbrev S3136 : Shape := ⟨1, ![3136]⟩
abbrev S1x3136 : Shape := ⟨2, ![1, 3136]⟩
abbrev S1x64 : Shape := ⟨2, ![1, 64]⟩
abbrev S1x3200 : Shape := ⟨2, ![1, 3200]⟩
abbrev S8x3200 : Shape := ⟨2, ![8, 3200]⟩
abbrev S16x3136 : Shape := ⟨2, ![16, 3136]⟩
abbrev S16x384 : Shape := ⟨2, ![16, 384]⟩
abbrev S5x80x128 : Shape := ⟨3, ![5, 80, 128]⟩
abbrev S1x16x128 : Shape := ⟨3, ![1, 16, 128]⟩
abbrev S384x1664 : Shape := ⟨2, ![384, 1664]⟩
abbrev S984x1664 : Shape := ⟨2, ![984, 1664]⟩
abbrev S8x1664 : Shape := ⟨2, ![8, 1664]⟩
abbrev S40x1664 : Shape := ⟨2, ![40, 1664]⟩
abbrev S1x1664 : Shape := ⟨2, ![1, 1664]⟩
abbrev S1664 : Shape := ⟨1, ![1664]⟩
abbrev S384x1536 : Shape := ⟨2, ![384, 1536]⟩
abbrev S984x1536 : Shape := ⟨2, ![984, 1536]⟩
abbrev S8x1536 : Shape := ⟨2, ![8, 1536]⟩
abbrev S40x1536 : Shape := ⟨2, ![40, 1536]⟩
abbrev S1x1536 : Shape := ⟨2, ![1, 1536]⟩
abbrev S1536 : Shape := ⟨1, ![1536]⟩
abbrev S1x1x3200 : Shape := ⟨3, ![1, 1, 3200]⟩
abbrev S16x3200 : Shape := ⟨2, ![16, 3200]⟩
abbrev S3200x1 : Shape := ⟨2, ![3200, 1]⟩
abbrev S16x1 : Shape := ⟨2, ![16, 1]⟩
abbrev S16 : Shape := ⟨1, ![16]⟩
abbrev S16x128 : Shape := ⟨2, ![16, 128]⟩
abbrev S5x75x1 : Shape := ⟨3, ![5, 75, 1]⟩
abbrev S5x75 : Shape := ⟨2, ![5, 75]⟩
abbrev S75x5 : Shape := ⟨2, ![75, 5]⟩
abbrev S1x75x5 : Shape := ⟨3, ![1, 75, 5]⟩

abbrev nBuf : Space → Nat
  | .hbm => 33
  | .vmem => 27
  | .smem => 2
  | _ => 0

abbrev bufTy : (tb : Table) → Fin (tcTables nBuf tb) → BufTy
  | .hbm, ⟨0, _⟩ => ⟨S1x5x5x3x224x224, .f32⟩
  | .hbm, ⟨1, _⟩ => ⟨S1x75x3x224x224, .f32⟩
  | .hbm, ⟨2, _⟩ => ⟨S384x3x16x16, .f32⟩
  | .hbm, ⟨3, _⟩ => ⟨S384, .f32⟩
  | .hbm, ⟨4, _⟩ => ⟨S1, .f32⟩
  | .hbm, ⟨5, _⟩ => ⟨S1, .f32⟩
  | .hbm, ⟨6, _⟩ => ⟨S25x3x224x224, .f32⟩
  | .hbm, ⟨7, _⟩ => ⟨S25x3x224x224, .bf16⟩
  | .hbm, ⟨8, _⟩ => ⟨S75x3x224x224, .f32⟩
  | .hbm, ⟨9, _⟩ => ⟨S_, .i32⟩
  | .hbm, ⟨10, _⟩ => ⟨S_, .f32⟩
  | .hbm, ⟨11, _⟩ => ⟨S80x3x224x224, .f32⟩
  | .hbm, ⟨12, _⟩ => ⟨S80x3x224x224, .bf16⟩
  | .hbm, ⟨13, _⟩ => ⟨S25x3x14x16x14x16, .bf16⟩
  | .hbm, ⟨14, _⟩ => ⟨S25x14x14x3x16x16, .bf16⟩
  | .hbm, ⟨15, _⟩ => ⟨S4900x768, .bf16⟩
  | .hbm, ⟨16, _⟩ => ⟨S80x3x14x16x14x16, .bf16⟩
  | .hbm, ⟨17, _⟩ => ⟨S80x14x14x3x16x16, .bf16⟩
  | .hbm, ⟨18, _⟩ => ⟨S15680x768, .bf16⟩
  | .hbm, ⟨19, _⟩ => ⟨S384x768, .f32⟩
  | .hbm, ⟨20, _⟩ => ⟨S768x384, .f32⟩
  | .hbm, ⟨21, _⟩ => ⟨S768x384, .bf16⟩
  | .hbm, ⟨22, _⟩ => ⟨S1x384, .f32⟩
  | .hbm, ⟨23, _⟩ => ⟨S5x984x384, .bf16⟩
  | .hbm, ⟨24, _⟩ => ⟨S5x8x384, .f32⟩
  | .hbm, ⟨25, _⟩ => ⟨S384x16000, .bf16⟩
  | .hbm, ⟨26, _⟩ => ⟨S5x8x3200, .f32⟩
  | .hbm, ⟨27, _⟩ => ⟨S5x16x384, .f32⟩
  | .hbm, ⟨28, _⟩ => ⟨S5x80x128, .f32⟩
  | .hbm, ⟨29, _⟩ => ⟨S5x75x1, .f32⟩
  | .hbm, ⟨30, _⟩ => ⟨S5x75, .f32⟩
  | .hbm, ⟨31, _⟩ => ⟨S75x5, .f32⟩
  | .hbm, ⟨32, _⟩ => ⟨S1x75x5, .f32⟩
  | .local _ .vmem, ⟨0, _⟩ => ⟨S4900x768, .bf16⟩
  | .local _ .vmem, ⟨1, _⟩ => ⟨S768x384, .bf16⟩
  | .local _ .vmem, ⟨2, _⟩ => ⟨S1x384, .f32⟩
  | .local _ .vmem, ⟨3, _⟩ => ⟨S5x984x384, .bf16⟩
  | .local _ .vmem, ⟨4, _⟩ => ⟨S5x8x384, .f32⟩
  | .local _ .vmem, ⟨5, _⟩ => ⟨S3136x768, .bf16⟩
  | .local _ .vmem, ⟨6, _⟩ => ⟨S3136x768, .bf16⟩
  | .local _ .vmem, ⟨7, _⟩ => ⟨S768x384, .bf16⟩
  | .local _ .vmem, ⟨8, _⟩ => ⟨S1x384, .f32⟩
  | .local _ .vmem, ⟨9, _⟩ => ⟨S384x3200, .bf16⟩
  | .local _ .vmem, ⟨10, _⟩ => ⟨S384x3200, .bf16⟩
  | .local _ .vmem, ⟨11, _⟩ => ⟨S1x8x3200, .f32⟩
  | .local _ .vmem, ⟨12, _⟩ => ⟨S1x8x3200, .f32⟩
  | .local _ .vmem, ⟨13, _⟩ => ⟨S1x16x384, .f32⟩
  | .local _ .vmem, ⟨14, _⟩ => ⟨S1x16x384, .f32⟩
  | .local _ .vmem, ⟨15, _⟩ => ⟨S1x984x384, .bf16⟩
  | .local _ .vmem, ⟨16, _⟩ => ⟨S1x984x384, .bf16⟩
  | .local _ .vmem, ⟨17, _⟩ => ⟨S384x3200, .bf16⟩
  | .local _ .vmem, ⟨18, _⟩ => ⟨S384x3200, .bf16⟩
  | .local _ .vmem, ⟨19, _⟩ => ⟨S1x8x3200, .f32⟩
  | .local _ .vmem, ⟨20, _⟩ => ⟨S1x8x3200, .f32⟩
  | .local _ .vmem, ⟨21, _⟩ => ⟨S1x16x384, .f32⟩
  | .local _ .vmem, ⟨22, _⟩ => ⟨S1x16x384, .f32⟩
  | .local _ .vmem, ⟨23, _⟩ => ⟨S1x8x384, .f32⟩
  | .local _ .vmem, ⟨24, _⟩ => ⟨S1x8x384, .f32⟩
  | .local _ .vmem, ⟨25, _⟩ => ⟨S1x16x128, .f32⟩
  | .local _ .vmem, ⟨26, _⟩ => ⟨S1x16x128, .f32⟩
  | .local _ .smem, ⟨0, _⟩ => ⟨S1, .f32⟩
  | .local _ .smem, ⟨1, _⟩ => ⟨S1, .f32⟩
  | _, _ => ⟨S1x5x5x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15_0 : Ref sig .tc := ⟨.hbm, 23, rfl⟩
abbrev main_v15_1 : Ref sig .tc := ⟨.hbm, 24, rfl⟩
abbrev main_v16_0 : Ref sig .tc := ⟨.hbm, 25, rfl⟩
abbrev main_v16_1 : Ref sig .tc := ⟨.hbm, 26, rfl⟩
abbrev main_v16_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc2_stg4_0 : Ref sig .tc := ⟨.vmem, 23, rfl⟩
abbrev cc2_stg4_1 : Ref sig .tc := ⟨.vmem, 24, rfl⟩
abbrev cc2_stg7_0 : Ref sig .tc := ⟨.vmem, 25, rfl⟩
abbrev cc2_stg7_1 : Ref sig .tc := ⟨.vmem, 26, rfl⟩
abbrev cc2_stg5_0 : Ref sig .tc := ⟨.smem, 0, rfl⟩
abbrev cc2_stg6_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc1_sem4_0 : DmaSem sig := 11
abbrev cc1_sem4_1 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem3_1 : DmaSem sig := 22
abbrev cc2_sem4_0 : DmaSem sig := 23
abbrev cc2_sem4_1 : DmaSem sig := 24
abbrev cc2_sem5_0 : DmaSem sig := 25
abbrev cc2_sem6_0 : DmaSem sig := 26
abbrev cc2_sem7_0 : DmaSem sig := 27
abbrev cc2_sem7_1 : DmaSem sig := 28

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S4900x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S768x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S5x984x384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S5x8x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S3136x768 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S768x384 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x384 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S384x3200 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x8x3200 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x16x384 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨2, ![5, 5], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_5 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_6 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_7 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x984x384 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S384x3200 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x8x3200 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1x16x384 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S1x8x384 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 1 → Memref sig .tc .smem S1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .smem S1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 2 → Memref sig .tc .vmem S1x16x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true]
-- ==== KernelIdeal.lean ====
variable {F : FTy → Type} [FloatOps F] [Named F]
def κ : String → Option EReal := fun
  | "eps_sq" => some ((5316911940649 / 5316911983139663491615228241121378304 : ℝ) : EReal)
  | "inv_hw" => some ((1 / 196 : ℝ) : EReal)
  | "inv_k" => some ((1 / 5 : ℝ) : EReal)
  | "inv_shw" => some ((1 / 980 : ℝ) : EReal)
  | _ => none
-- ==== ReferenceIdeal.lean ====
abbrev S1x5x5x3x224x224 : Shape := ⟨6, ![1, 5, 5, 3, 224, 224]⟩
abbrev S1x75x3x224x224 : Shape := ⟨5, ![1, 75, 3, 224, 224]⟩
abbrev S384x3x16x16 : Shape := ⟨4, ![384, 3, 16, 16]⟩
abbrev S384 : Shape := ⟨1, ![384]⟩
abbrev S1 : Shape := ⟨1, ![1]⟩
abbrev S25x3x224x224 : Shape := ⟨4, ![25, 3, 224, 224]⟩
abbrev S75x3x224x224 : Shape := ⟨4, ![75, 3, 224, 224]⟩
abbrev S100x3x224x224 : Shape := ⟨4, ![100, 3, 224, 224]⟩
abbrev S100x3x14x16x14x16 : Shape := ⟨6, ![100, 3, 14, 16, 14, 16]⟩
abbrev S384x100x14x14 : Shape := ⟨4, ![384, 100, 14, 14]⟩
abbrev S100x384x14x14 : Shape := ⟨4, ![100, 384, 14, 14]⟩
abbrev S1x384x1x1 : Shape := ⟨4, ![1, 384, 1, 1]⟩
abbrev S_ : Shape := ⟨0, ![]⟩
abbrev S25x384x14x14 : Shape := ⟨4, ![25, 384, 14, 14]⟩
abbrev S1x5x5x384x196 : Shape := ⟨5, ![1, 5, 5, 384, 196]⟩
abbrev S75x384x14x14 : Shape := ⟨4, ![75, 384, 14, 14]⟩
abbrev S1x75x384x196 : Shape := ⟨4, ![1, 75, 384, 196]⟩
abbrev S1x5x5x384 : Shape := ⟨4, ![1, 5, 5, 384]⟩
abbrev S1x5x384 : Shape := ⟨3, ![1, 5, 384]⟩
abbrev S1x75x384 : Shape := ⟨3, ![1, 75, 384]⟩
abbrev S1x75 : Shape := ⟨2, ![1, 75]⟩
abbrev S1x75x1 : Shape := ⟨3, ![1, 75, 1]⟩
abbrev S1x5 : Shape := ⟨2, ![1, 5]⟩
abbrev S1x5x1 : Shape := ⟨3, ![1, 5, 1]⟩
abbrev S1x75x5 : Shape := ⟨3, ![1, 75, 5]⟩
abbrev S1x5x5x196x384 : Shape := ⟨5, ![1, 5, 5, 196, 384]⟩
abbrev S1x5x980x384 : Shape := ⟨4, ![1, 5, 980, 384]⟩
abbrev S1x75x196x384 : Shape := ⟨4, ![1, 75, 196, 384]⟩
abbrev S1x75x196 : Shape := ⟨3, ![1, 75, 196]⟩
abbrev S1x75x196x1 : Shape := ⟨4, ![1, 75, 196, 1]⟩
abbrev S1x5x1x384 : Shape := ⟨4, ![1, 5, 1, 384]⟩
abbrev S1x5x980x75x196 : Shape := ⟨5, ![1, 5, 980, 75, 196]⟩
abbrev S1x75x5x196x980 : Shape := ⟨5, ![1, 75, 5, 196, 980]⟩
abbrev S1x75x5x196x5 : Shape := ⟨5, ![1, 75, 5, 196, 5]⟩
abbrev S1x1x1 : Shape := ⟨3, ![1, 1, 1]⟩

abbrev nBuf : Space → Nat
  | .hbm => 91
  | .vmem => 0
  | .smem => 0
  | _ => 0

abbrev bufTy : (tb : Table) → Fin (tcTables nBuf tb) → BufTy
  | .hbm, ⟨0, _⟩ => ⟨S1x5x5x3x224x224, .f32⟩
  | .hbm, ⟨1, _⟩ => ⟨S1x75x3x224x224, .f32⟩
  | .hbm, ⟨2, _⟩ => ⟨S384x3x16x16, .f32⟩
  | .hbm, ⟨3, _⟩ => ⟨S384, .f32⟩
  | .hbm, ⟨4, _⟩ => ⟨S1, .f32⟩
  | .hbm, ⟨5, _⟩ => ⟨S1, .f32⟩
  | .hbm, ⟨6, _⟩ => ⟨S25x3x224x224, .f32⟩
  | .hbm, ⟨7, _⟩ => ⟨S75x3x224x224, .f32⟩
  | .hbm, ⟨8, _⟩ => ⟨S100x3x224x224, .f32⟩
  | .hbm, ⟨9, _⟩ => ⟨S100x3x14x16x14x16, .f32⟩
  | .hbm, ⟨10, _⟩ => ⟨S384x100x14x14, .f32⟩
  | .hbm, ⟨11, _⟩ => ⟨S100x384x14x14, .f32⟩
  | .hbm, ⟨12, _⟩ => ⟨S1x384x1x1, .f32⟩
  | .hbm, ⟨13, _⟩ => ⟨S100x384x14x14, .f32⟩
  | .hbm, ⟨14, _⟩ => ⟨S100x384x14x14, .f32⟩
  | .hbm, ⟨15, _⟩ => ⟨S_, .f32⟩
  | .hbm, ⟨16, _⟩ => ⟨S100x384x14x14, .f32⟩
  | .hbm, ⟨17, _⟩ => ⟨S100x384x14x14, .f32⟩
  | .hbm, ⟨18, _⟩ => ⟨S25x384x14x14, .f32⟩
  | .hbm, ⟨19, _⟩ => ⟨S1x5x5x384x196, .f32⟩
  | .hbm, ⟨20, _⟩ => ⟨S75x384x14x14, .f32⟩
  | .hbm, ⟨21, _⟩ => ⟨S1x75x384x196, .f32⟩
  | .hbm, ⟨22, _⟩ => ⟨S_, .f32⟩
  | .hbm, ⟨23, _⟩ => ⟨S1x5x5x384, .f32⟩
  | .hbm, ⟨24, _⟩ => ⟨S_, .f32⟩
  | .hbm, ⟨25, _⟩ => ⟨S1x5x5x384, .f32⟩
  | .hbm, ⟨26, _⟩ => ⟨S1x5x5x384, .f32⟩
  | .hbm, ⟨27, _⟩ => ⟨S_, .f32⟩
  | .hbm, ⟨28, _⟩ => ⟨S1x5x384, .f32⟩
  | .hbm, ⟨29, _⟩ => ⟨S_, .f32⟩
  | .hbm, ⟨30, _⟩ => ⟨S1x5x384, .f32⟩
  | .hbm, ⟨31, _⟩ => ⟨S1x5x384, .f32⟩
  | .hbm, ⟨32, _⟩ => ⟨S_, .f32⟩
  | .hbm, ⟨33, _⟩ => ⟨S1x75x384, .f32⟩
  | .hbm, ⟨34, _⟩ => ⟨S_, .f32⟩
  | .hbm, ⟨35, _⟩ => ⟨S1x75x384, .f32⟩
  | .hbm, ⟨36, _⟩ => ⟨S1x75x384, .f32⟩
  | .hbm, ⟨37, _⟩ => ⟨S1x75x384, .f32⟩
  | .hbm, ⟨38, _⟩ => ⟨S_, .f32⟩
  | .hbm, ⟨39, _⟩ => ⟨S1x75, .f32⟩
  | .hbm, ⟨40, _⟩ => ⟨S1x75x1, .f32⟩
  | .hbm, ⟨41, _⟩ => ⟨S1x75x1, .f32⟩
  | .hbm, ⟨42, _⟩ => ⟨S_, .f32⟩
  | .hbm, ⟨43, _⟩ => ⟨S1x75x1, .f32⟩
  | .hbm, ⟨44, _⟩ => ⟨S1x75x1, .f32⟩
  | .hbm, ⟨45, _⟩ => ⟨S1x75x384, .f32⟩
  | .hbm, ⟨46, _⟩ => ⟨S1x75x384, .f32⟩
  | .hbm, ⟨47, _⟩ => ⟨S1x5x384, .f32⟩
  | .hbm, ⟨48, _⟩ => ⟨S_, .f32⟩
  | .hbm, ⟨49, _⟩ => ⟨S1x5, .f32⟩
  | .hbm, ⟨50, _⟩ => ⟨S1x5x1, .f32⟩
  | .hbm, ⟨51, _⟩ => ⟨S1x5x1, .f32⟩
  | .hbm, ⟨52, _⟩ => ⟨S_, .f32⟩
  | .hbm, ⟨53, _⟩ => ⟨S1x5x1, .f32⟩
  | .hbm, ⟨54, _⟩ => ⟨S1x5x1, .f32⟩
  | .hbm, ⟨55, _⟩ => ⟨S1x5x384, .f32⟩
  | .hbm, ⟨56, _⟩ => ⟨S1x5x384, .f32⟩
  | .hbm, ⟨57, _⟩ => ⟨S1x75x5, .f32⟩
  | .hbm, ⟨58, _⟩ => ⟨S1x5x5x196x384, .f32⟩
  | .hbm, ⟨59, _⟩ => ⟨S1x5x980x384, .f32⟩
  | .hbm, ⟨60, _⟩ => ⟨S1x75x196x384, .f32⟩
  | .hbm, ⟨61, _⟩ => ⟨S1x75x196x384, .f32⟩
  | .hbm, ⟨62, _⟩ => ⟨S_, .f32⟩
  | .hbm, ⟨63, _⟩ => ⟨S1x75x196, .f32⟩
  | .hbm, ⟨64, _⟩ => ⟨S1x75x196x1, .f32⟩
  | .hbm, ⟨65, _⟩ => ⟨S1x75x196x1, .f32⟩
  | .hbm, ⟨66, _⟩ => ⟨S1x75x196x384, .f32⟩
  | .hbm, ⟨67, _⟩ => ⟨S1x75x196x384, .f32⟩
  | .hbm, ⟨68, _⟩ => ⟨S1x5x980x384, .f32⟩
  | .hbm, ⟨69, _⟩ => ⟨S_, .f32⟩
  | .hbm, ⟨70, _⟩ => ⟨S1x5x384, .f32⟩
  | .hbm, ⟨71, _⟩ => ⟨S1x5x1x384, .f32⟩
  | .hbm, ⟨72, _⟩ => ⟨S1x5x1x384, .f32⟩
  | .hbm, ⟨73, _⟩ => ⟨S1x5x980x384, .f32⟩
  | .hbm, ⟨74, _⟩ => ⟨S1x5x980x384, .f32⟩
  | .hbm, ⟨75, _⟩ => ⟨S1x5x980x75x196, .f32⟩
  | .hbm, ⟨76, _⟩ => ⟨S1x75x5x196x980, .f32⟩
  | .hbm, ⟨77, _⟩ => ⟨S1x75x5x196x5, .f32⟩
  | .hbm, ⟨78, _⟩ => ⟨S1x75x5x196x5, .i32⟩
  | .hbm, ⟨79, _⟩ => ⟨S_, .f32⟩
  | .hbm, ⟨80, _⟩ => ⟨S1x75x5, .f32⟩
  | .hbm, ⟨81, _⟩ => ⟨S_, .f32⟩
  | .hbm, ⟨82, _⟩ => ⟨S1x75x5, .f32⟩
  | .hbm, ⟨83, _⟩ => ⟨S1x75x5, .f32⟩
  | .hbm, ⟨84, _⟩ => ⟨S1x1x1, .f32⟩
  | .hbm, ⟨85, _⟩ => ⟨S1x75x5, .f32⟩
  | .hbm, ⟨86, _⟩ => ⟨S1x75x5, .f32⟩
  | .hbm, ⟨87, _⟩ => ⟨S1x1x1, .f32⟩
  | .hbm, ⟨88, _⟩ => ⟨S1x75x5, .f32⟩
  | .hbm, ⟨89, _⟩ => ⟨S1x75x5, .f32⟩
  | .hbm, ⟨90, _⟩ => ⟨S1x75x5, .f32⟩
  | _, _ => ⟨S1x5x5x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_7 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_8 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_9 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_10 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_11 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_values : Ref sig .tc := ⟨.hbm, 77, rfl⟩
abbrev main_indices : Ref sig .tc := ⟨.hbm, 78, rfl⟩
abbrev main_cst_12 : Ref sig .tc := ⟨.hbm, 79, rfl⟩
abbrev main_v58 : Ref sig .tc := ⟨.hbm, 80, rfl⟩
abbrev main_cst_13 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩

abbrev nD : Nat := 1
abbrev τ : Topo := Topo.v7x

variable {F : FTy → Type} [FloatOps F]
-- ==== Proof.Spec.lean ====
/- What one grid point of the third call computes, written as a recursion over the 123 chunks of 8 rows: the kernel's body
   is this network unrolled. Everything here is at any `F`. -/
module

public import proofs.«01_k».proof.Proof.Gen.KernelIdeal.Frame

@[expose] public section

noncomputable section

namespace Cert.Proof.Dn4

open Idealize.ShloMosaic Cert.KernelIdeal Cert.KernelIdeal.Gen

variable {F : FTy → Type} [FloatOps F] [Named F]

/-- The shape relations the network uses at a block of `W` columns. -/
structure Width (W : Nat) : Prop where
  red : (⟨2, ![40, W]⟩ : Shape).Reduces [0] ⟨1, ![W]⟩
  cast : (⟨1, ![W]⟩ : Shape).ShapeCasts ⟨2, ![1, W]⟩
  bc : (⟨2, ![1, W]⟩ : Shape).Broadcasts ⟨2, ![40, W]⟩
  cat : Shape.Concatenates [⟨2, ![8, W]⟩, ⟨2, ![8, W]⟩, ⟨2, ![8, W]⟩, ⟨2, ![8, W]⟩, ⟨2, ![8, W]⟩] ⟨2, ![40, W]⟩ 0
  slice : ∀ c : Nat, (⟨2, ![984, W]⟩ : Shape).Slices ![8 * min c 122, 0] ⟨2, ![8, W]⟩

variable {W : Nat}

/-- Rows `8c … 8c + 7` of the block of inner products. -/
def chunk (h : Width W) (x : FVec F ⟨2, ![984, W]⟩ .f32) (c : Nat) : FVec F ⟨2, ![8, W]⟩ .f32 :=
  extractStridedSlice ⟨2, ![8, W]⟩ ![8 * min c 122, 0] x (h.slice c)

/-- What is handed to register `j` when the chunk `v` enters the registers `r`. -/
def carry (r : Nat → FVec F ⟨2, ![8, W]⟩ .f32) (v : FVec F ⟨2, ![8, W]⟩ .f32) : Nat → FVec F ⟨2, ![8, W]⟩ .f32
  | 0 => v
  | j + 1 => minimumf (r j) (carry r v j)

/-- The registers after the first `c` chunks: each chunk is inserted from the top. -/
def regs (h : Width W) (x : FVec F ⟨2, ![984, W]⟩ .f32) : Nat → Nat → FVec F ⟨2, ![8, W]⟩ .f32
  | 0 => fun _ => broadcast ⟨2, ![8, W]⟩ (Scalar.ofBits .f32 0x00000000#32)
  | c + 1 => fun j => maximumf (regs h x c j) (carry (regs h x c) (chunk h x c) j)

/-- The 40 candidates of a column: the five registers after all 123 chunks, one below the other. -/
def cands (h : Width W) (x : FVec F ⟨2, ![984, W]⟩ .f32) : FVec F ⟨2, ![40, W]⟩ .f32 :=
  concatenate ⟨2, ![40, W]⟩ 0 [⟨⟨2, ![8, W]⟩, regs h x 123 0⟩, ⟨⟨2, ![8, W]⟩, regs h x 123 1⟩,
    ⟨⟨2, ![8, W]⟩, regs h x 123 2⟩, ⟨⟨2, ![8, W]⟩, regs h x 123 3⟩, ⟨⟨2, ![8, W]⟩, regs h x 123 4⟩] h.cat

/-- The column maxima. -/
def colMax (h : Width W) (c : FVec F ⟨2, ![40, W]⟩ .f32) : FVec F ⟨2, ![1, W]⟩ .f32 :=
  shapeCast ⟨2, ![1, W]⟩ (multiReduction .maximumf [0] ⟨1, ![W]⟩ c 0xFF800000#32 h.red (.inl rfl) rfl) h.cast

/-- Where an entry is its column's maximum. -/
def atMax (h : Width W) (c : FVec F ⟨2, ![40, W]⟩ .f32) : IVec ⟨2, ![40, W]⟩ 1 :=
  cmpf .oeq c (broadcastTo ⟨2, ![40, W]⟩ (colMax h c) h.bc)

/-- How many entries of a column are its maximum. -/
def cntMax (h : Width W) (c : FVec F ⟨2, ![40, W]⟩ .f32) : FVec F ⟨2, ![1, W]⟩ .f32 :=
  shapeCast ⟨2, ![1, W]⟩ (multiReduction .add [0] ⟨1, ![W]⟩ (sitofp .f32 (extui 32 (atMax h c) natLt_1_32)) 0x00000000#32
    h.red (.inl rfl) rfl) h.cast

/-- The candidates after `n` rounds: the maxima of each round are put far below. -/
def cand (h : Width W) (c : FVec F ⟨2, ![40, W]⟩ .f32) : Nat → FVec F ⟨2, ![40, W]⟩ .f32
  | 0 => c
  | n + 1 => select (atMax h (cand h c n)) (broadcast ⟨2, ![40, W]⟩ (Scalar.ofBits .f32 0xFF7FC99E#32)) (cand h c n)

/-- How many of the five places are still open after `n` rounds. -/
def left (h : Width W) (c : FVec F ⟨2, ![40, W]⟩ .f32) : Nat → FVec F ⟨2, ![1, W]⟩ .f32
  | 0 => broadcast ⟨2, ![1, W]⟩ (Scalar.ofBits .f32 0x40A00000#32)
  | n + 1 => subf (left h c n) (minimumf (cntMax h (cand h c n)) (left h c n))

/-- The sum collected in `n` rounds. -/
def got (h : Width W) (c : FVec F ⟨2, ![40, W]⟩ .f32) : Nat → FVec F ⟨2, ![1, W]⟩ .f32
  | 0 => broadcast ⟨2, ![1, W]⟩ (Scalar.ofBits .f32 0x00000000#32)
  | n + 1 => addf (got h c n) (mulf (colMax h (cand h c n)) (minimumf (cntMax h (cand h c n)) (left h c n)))

/-- The side conditions of the search at the first group's width. -/
theorem width1664 : Width 1664 where
  red := by decide
  cast := by decide
  bc := by decide
  cat := by decide
  slice c := ⟨rfl, fun a => by
    have : min c 122 ≤ 122 := Nat.min_le_right _ _
    fin_cases a <;> simp <;> omega⟩

/-- The side conditions of the search at the second group's width. -/
theorem width1536 : Width 1536 where
  red := by decide
  cast := by decide
  bc := by decide
  cat := by decide
  slice c := ⟨rfl, fun a => by
    have : min c 122 ≤ 122 := Nat.min_le_right _ _
    fin_cases a <;> simp <;> omega⟩

/-- The first block of inner products: query columns 0 … 1663. -/
def inner1 (q : Vec F S384x3200 .bf16) (s : Vec F S1x984x384 .bf16) : FVec F S984x1664 .f32 :=
  matmul dot_S984x384_S384x1664_S984x1664_1_0_0_1_n_n none (shapeCast S984x384 s shapeCasts_S1x984x384_S984x384)
    (extractStridedSlice S384x1664 ![0, 0] (shapeCast S384x3200 q shapeCasts_S384x3200_S384x3200) slices_S384x3200_o0_0_S384x1664)
    (constant S984x1664 .f32 0x00000000#32)

/-- The second block of inner products: query columns 1664 … 3199. -/
def inner2 (q : Vec F S384x3200 .bf16) (s : Vec F S1x984x384 .bf16) : FVec F S984x1536 .f32 :=
  matmul dot_S984x384_S384x1536_S984x1536_1_0_0_1_n_n none (shapeCast S984x384 s shapeCasts_S1x984x384_S984x384)
    (extractStridedSlice S384x1536 ![0, 1664] (shapeCast S384x3200 q shapeCasts_S384x3200_S384x3200) slices_S384x3200_o0_1664_S384x1536)
    (constant S984x1536 .f32 0x00000000#32)

/-- The top-five sums of all query columns. -/
def tops (q : Vec F S384x3200 .bf16) (s : Vec F S1x984x384 .bf16) : FVec F S1x3200 .f32 :=
  concatenate S1x3200 1 [⟨S1x1664, got width1664 (cands width1664 (inner1 q s)) 5⟩,
    ⟨S1x1536, got width1536 (cands width1536 (inner2 q s)) 5⟩] concatenates_S1x1664_S1x1536_S1x3200_d1

/-- The query each column belongs to, as the kernel's floor division of the column number by 196. -/
def colQuery : IVec S16x3200 32 :=
  let n : IVec S16x3200 32 := iota .tc S16x3200 32 [1] iota_S16x3200_d1_w32
  let d : IVec S16x3200 32 := divsi n (broadcast S16x3200 196#32)
  let sg : IVec S16x3200 32 := subi (extui 32 (cmpi .sgt n (broadcast S16x3200 0#32)) natLt_1_32)
    (extui 32 (cmpi .slt n (broadcast S16x3200 0#32)) natLt_1_32)
  let dv : BitVec 32 := Scalar.subi (Scalar.extui (Scalar.cmpi .sgt 196#32 0#32)) (Scalar.extui (Scalar.cmpi .slt 196#32 0#32))
  select (andi (cmpi .ne sg (broadcast S16x3200 dv)) (cmpi .ne (remsi n (broadcast S16x3200 196#32)) (broadcast S16x3200 0#32)))
    (subi d (broadcast S16x3200 1#32)) d

/-- The 0/1 matrix that adds up the columns of each of the 16 queries. -/
def sel : FVec F S16x3200 .f32 :=
  sitofp .f32 (extui 32 (cmpi .eq colQuery (iota .tc S16x3200 32 [0] iota_S16x3200_d0_w32)) natLt_1_32)

/-- The local-descriptor score of each of the 16 queries. -/
def dn4 (q : Vec F S384x3200 .bf16) (s : Vec F S1x984x384 .bf16) (ri : Vec F S1x1x3200 .f32) : FVec F S16x1 .f32 :=
  matmul dot_S16x3200_S3200x1_S16x1_1_0_0_1_n_n none sel
    (transpose S3200x1 [1, 0] (mulf (tops q s) (shapeCast S1x3200 ri shapeCasts_S1x1x3200_S1x3200)) transposes_S1x3200_p1_0_S3200x1)
    (constant S16x1 .f32 0x00000000#32)

/-- The cosine of each of the 16 pooled queries with the class. -/
def cosQ (qm : Vec F S1x16x384 .f32) (pn : Vec F S1x1x384 .f32) : FVec F S16x1 .f32 :=
  let v : FVec F S16x384 .f32 := shapeCast S16x384 qm shapeCasts_S1x16x384_S16x384
  matmul dot_S16x384_S1x384_S16x1_1_1_0_0_n_n none
    (mulf v (broadcastTo S16x384 (rsqrt (maximumf (shapeCast S16x1 (multiReduction .add [1] S16 (mulf v v) 0x00000000#32
        reduces_S16x384_S16 (.inl rfl) rfl) shapeCasts_S16_S16x1)
      (broadcast S16x1 (Named.named κ "eps_sq" 0x179ABE15#32)))) broadcasts_S16x1_S16x384))
    (shapeCast S1x384 pn shapeCasts_S1x1x384_S1x384)
    (constant S16x1 .f32 0x00000000#32)

/-- What one point of the third call writes. -/
def out (q : Vec F S384x3200 .bf16) (s : Vec F S1x984x384 .bf16) (ri : Vec F S1x1x3200 .f32) (qm : Vec F S1x16x384 .f32)
    (pn : Vec F S1x1x384 .f32) (rcos rdn4 : F .f32) : FVec F S1x16x128 .f32 :=
  shapeCast S1x16x128
    (broadcastTo S16x128
      (shapeCast S16x1
        (addf (mulf (broadcast S16x1 rcos) (cosQ qm pn))
          (mulf (broadcast S16x1 (Scalar.mulf rdn4 (Named.named κ "inv_k" 0x3E4CCCCD#32))) (dn4 q s ri)))
        shapeCasts_S16x1_S16x1)
      broadcasts_S16x1_S16x128)
    shapeCasts_S16x128_S1x16x128

end Cert.Proof.Dn4

end
-- ==== Proof.Body.lean ====
/- The third call's body is the recursion of `Spec`: the run's one store holds `Dn4.out` of what it loads. -/
module

public import proofs.«01_k».proof.Proof.Spec
public import Idealize.ShloMosaic.Lib.Tactic

@[expose] public section

set_option maxRecDepth 100000

noncomputable section

namespace Cert.Proof.Dn4

open Idealize.ShloMosaic Idealize.ShloMosaic.Tactic Cert.KernelIdeal Cert.KernelIdeal.Gen

variable {F : FTy → Type} [FloatOps F] [Named F]

/-- The pieces the third call's body writes: one store, of `out` of the loaded blocks. -/
theorem pieces_eq (c : Dev nD) (i : grid2.Coords) (arg2 : Memref sig .tc .vmem S1x984x384 .bf16) (harg2 : arg2.IsWhole)
    (arg3 : Memref sig .tc .vmem S384x3200 .bf16) (harg3 : arg3.IsWhole) (arg4 : Memref sig .tc .vmem S1x8x3200 .f32)
    (harg4 : arg4.IsWhole) (arg5 : Memref sig .tc .vmem S1x16x384 .f32) (harg5 : arg5.IsWhole)
    (arg6 : Memref sig .tc .vmem S1x8x384 .f32) (harg6 : arg6.IsWhole) (arg7 : Memref sig .tc .smem S1 .f32)
    (harg7 : arg7.IsWhole) (arg8 : Memref sig .tc .smem S1 .f32) (harg8 : arg8.IsWhole)
    (arg9 : Memref sig .tc .vmem S1x16x128 .f32) (harg9 : arg9.IsWhole)
    (x0 : Vec F S1x984x384 .bf16) (x1 : Vec F S384x3200 .bf16) (x2 : Vec F S1x8x3200 .f32) (x3 : Vec F S1x16x384 .f32)
    (x4 : Vec F S1x8x384 .f32) (x5 : Vec F S1 .f32) (x6 : Vec F S1 .f32) :
    (kernelRun2_A c i arg2 harg2 arg3 harg3 arg4 harg4 arg5 harg5 arg6 harg6 arg7 harg7 arg8 harg8 arg9 harg9
      x0 x1 x2 x3 x4 x5 x6).1
    = [⟨Rect.unit ![0, 0, 0] ![1, 16, 128] inb_S1x16x128_S1x16x128_0_0_0,
        out
          (View.readAt (Elt F) arg3.view (Rect.unit ![0, 0] S384x3200.size inb_S384x3200_S384x3200_0_0).toLoadRect (harg3.unread x1))
          (View.readAt (Elt F) arg2.view (Rect.unit ![0, 0, 0] S1x984x384.size inb_S1x984x384_S1x984x384_0_0_0).toLoadRect (harg2.unread x0))
          (View.readAt (Elt F) arg4.view (Rect.unit (s := S1x8x3200) ![0, 0, 0] S1x1x3200.size inb_S1x8x3200_S1x1x3200_0_0_0).toLoadRect (harg4.unread x2))
          (View.readAt (Elt F) arg5.view (Rect.unit ![0, 0, 0] S1x16x384.size inb_S1x16x384_S1x16x384_0_0_0).toLoadRect (harg5.unread x3))
          (View.readAt (Elt F) arg6.view (Rect.unit (s := S1x8x384) ![0, 0, 0] S1x1x384.size inb_S1x8x384_S1x1x384_0_0_0).toLoadRect (harg6.unread x4))
          (View.readAt (Elt F) arg7.view (Rect.unit ![0] S1.size inb_S1_S1_0).toLoadRect (harg7.unread x5) (Shape.Idx.first (lt_of_lt_of_eq Nat.one_pos numel1_S1.symm)))
          (View.readAt (Elt F) arg8.view (Rect.unit ![0] S1.size inb_S1_S1_0).toLoadRect (harg8.unread x6) (Shape.Idx.first (lt_of_lt_of_eq Nat.one_pos numel1_S1.symm)))⟩] := by
  sl_kernel_rfl

end Cert.Proof.Dn4

end
-- ==== Proof.Top5.lean ====
/- The five largest of a family, found two ways: by an insertion network over chunks followed by five rounds of maxima, and
   by sorting. Both are described by threshold counts: `a` is the `j`-th largest value of `f` exactly when, for every `x`,
   `x ≤ a` says that more than `j` entries of `f` are at least `x`. -/
module

public import Mathlib.Data.EReal.Inv
public import Mathlib.Algebra.BigOperators.Fin
public import Mathlib.Algebra.Order.BigOperators.Group.Finset

@[expose] public section

noncomputable section

namespace Cert.Proof.Top5

open Finset

variable {ι : Type} [Fintype ι]

/-- How many entries of `f` are at least `x`. -/
def above (f : ι → EReal) (x : EReal) : Nat := (univ.filter fun i => x ≤ f i).card

/-- `a` is the `j`-th largest entry of `f`, counted from 0. -/
def IsKth (f : ι → EReal) (j : Nat) (a : EReal) : Prop := ∀ x, x ≤ a ↔ j < above f x

/-- The `j`-th largest entry is unique. -/
theorem IsKth.unique {ι' : Type} [Fintype ι'] {f : ι → EReal} {g : ι' → EReal} {j : Nat} {a b : EReal}
    (ha : IsKth f j a) (hb : IsKth g j b) (h : ∀ x, j < above f x ↔ j < above g x) : a = b :=
  le_antisymm ((hb a).2 ((h a).1 ((ha a).1 le_rfl))) ((ha b).2 ((h b).2 ((hb b).1 le_rfl)))

/-- A descending arrangement of `f` lists its largest entries in order. -/
theorem isKth_of_antitone {n : Nat} (f : Fin n → EReal) (σ : Fin n → Fin n) (hσ : Function.Bijective σ)
    (h : Antitone fun k => f (σ k)) (j : Fin n) : IsKth f j (f (σ j)) := by
  intro x
  have hc : above f x = (univ.filter fun k => x ≤ f (σ k)).card := by
    unfold above
    refine (Finset.card_bij (fun k _ => σ k) ?_ ?_ ?_).symm
    · intro k hk; simpa using hk
    · intro k _ l _ hkl; exact hσ.1 hkl
    · intro i hi
      obtain ⟨k, rfl⟩ := hσ.2 i
      exact ⟨k, by simpa using hi, rfl⟩
  rw [hc]
  constructor
  · intro hx
    have : (Finset.Iic j).card ≤ (univ.filter fun k => x ≤ f (σ k)).card :=
      Finset.card_le_card fun k hk => by
        simp only [mem_filter, mem_univ, true_and]
        exact hx.trans (h (Finset.mem_Iic.1 hk))
    rw [Fin.card_Iic] at this
    omega
  · intro hj
    by_contra hx
    have : (univ.filter fun k => x ≤ f (σ k)).card ≤ (Finset.Iio j).card :=
      Finset.card_le_card fun k hk => by
        simp only [mem_filter, mem_univ, true_and] at hk
        rw [Finset.mem_Iio]
        by_contra hjk
        exact hx (hk.trans (h (not_lt.1 hjk)))
    rw [Fin.card_Iio] at this
    omega

/-- Thresholds at the entries themselves: among the entries at least `x` the smallest has the same ones above it. -/
theorem exists_least {f : ι → EReal} {j : Nat} {x : EReal} (h : j < above f x) : ∃ i, x ≤ f i ∧ j < above f (f i) := by
  have hne : (univ.filter fun i => x ≤ f i).Nonempty := Finset.card_pos.1 (lt_of_le_of_lt (Nat.zero_le _) h)
  obtain ⟨i, hi, hmin⟩ := Finset.exists_min_image _ f hne
  refine ⟨i, by simpa using hi, lt_of_lt_of_le h (Finset.card_le_card fun k hk => ?_)⟩
  simpa using hmin k hk

/-- The higher the bound, the fewer values reach it. -/
theorem above_anti {f : ι → EReal} {x y : EReal} (h : x ≤ y) : above f y ≤ above f x :=
  Finset.card_le_card fun k hk => by
    simp only [mem_filter, mem_univ, true_and] at hk ⊢
    exact h.trans hk

/-- A family has a `j`-th largest entry for every `j` below its length. -/
theorem exists_isKth (f : ι → EReal) {j : Nat} (hj : j < Fintype.card ι) : ∃ a, IsKth f j a := by
  classical
  have hA : (univ.filter fun i => j < above f (f i)).Nonempty := by
    have : j < above f ⊥ := by simpa [above] using hj
    obtain ⟨i, -, hi⟩ := exists_least this
    exact ⟨i, by simpa using hi⟩
  obtain ⟨i, hi, hmax⟩ := Finset.exists_max_image _ f hA
  refine ⟨f i, fun x => ⟨fun hx => lt_of_lt_of_le (by simpa using hi) (above_anti hx), fun hx => ?_⟩⟩
  obtain ⟨k, hk, hk'⟩ := exists_least hx
  exact hk.trans (hmax k (by simpa using hk'))

/-- Scaling by a nonnegative factor scales the `j`-th largest entry. -/
theorem isKth_mul {f : ι → EReal} {c : EReal} (hc : 0 ≤ c) {j : Nat} {a : EReal} (h : IsKth f j a) :
    IsKth (fun i => f i * c) j (a * c) := by
  intro x
  constructor
  · intro hx
    refine lt_of_lt_of_le ((h a).1 le_rfl) (Finset.card_le_card fun k hk => ?_)
    simp only [mem_filter, mem_univ, true_and] at hk ⊢
    exact hx.trans (mul_le_mul_of_nonneg_right hk hc)
  · intro hx
    obtain ⟨i, hi, hle⟩ : ∃ i, x ≤ f i * c ∧ f i ≤ a := by
      by_contra hno
      push Not at hno
      have hne : (univ.filter fun i => x ≤ f i * c).Nonempty := Finset.card_pos.1 (lt_of_le_of_lt (Nat.zero_le _) hx)
      obtain ⟨i, hi, hmin⟩ := Finset.exists_min_image _ f hne
      simp only [mem_filter, mem_univ, true_and] at hi
      refine absurd ((h (f i)).2 (lt_of_lt_of_le hx (Finset.card_le_card fun k hk => ?_))) (not_le.2 (hno i hi))
      simpa using hmin k hk
    exact hi.trans (mul_le_mul_of_nonneg_right hle hc)

/-! ## The insertion network on one lane -/

/-- What is handed to register `j` when `v` enters the registers `r`. -/
def carry (r : Nat → EReal) (v : EReal) : Nat → EReal
  | 0 => v
  | j + 1 => min (r j) (carry r v j)

/-- The registers after the first `c` entries of `v`. -/
def regs (v : Nat → EReal) : Nat → Nat → EReal
  | 0 => fun _ => 0
  | c + 1 => fun j => max (regs v c j) (carry (regs v c) (v c) j)

/-- A bound lies below the value handed down exactly when it lies below the new value and every register passed. -/
theorem le_carry (r : Nat → EReal) (v x : EReal) (j : Nat) : x ≤ carry r v j ↔ x ≤ v ∧ ∀ i < j, x ≤ r i := by
  induction j with
  | zero => simp [carry]
  | succ j ih =>
    simp only [carry, le_min_iff, ih, Nat.lt_succ_iff_lt_or_eq]
    constructor
    · rintro ⟨h1, h2, h3⟩
      exact ⟨h2, fun i hi => hi.elim (h3 i) fun h => h ▸ h1⟩
    · rintro ⟨h1, h2⟩
      exact ⟨h2 j (.inr rfl), h1, fun i hi => h2 i (.inl hi)⟩

/-- Register `j` is at least a positive `x` exactly when more than `j` of the entries seen so far are. -/
theorem le_regs (v : Nat → EReal) (c : Nat) {x : EReal} (hx : 0 < x) (j : Nat) :
    x ≤ regs v c j ↔ j < ((range c).filter fun i => x ≤ v i).card := by
  induction c generalizing j with
  | zero => simpa [regs] using hx
  | succ c ih =>
    simp only [regs, le_max_iff, ih, le_carry]
    rw [Finset.range_add_one, Finset.filter_insert]
    have hall : (∀ i < j, i < ((range c).filter fun i => x ≤ v i).card) ↔ j ≤ ((range c).filter fun i => x ≤ v i).card :=
      ⟨fun h => by
        by_contra hj
        exact lt_irrefl _ (h _ (not_le.1 hj)), fun h i hi => lt_of_lt_of_le hi h⟩
    rw [hall]
    split_ifs with hv
    · rw [Finset.card_insert_of_notMem (by simp)]
      simp only [hv, true_and]; omega
    · simp only [hv, false_and, or_false]

/-- A register is never negative. -/
theorem regs_nonneg (v : Nat → EReal) (c j : Nat) : 0 ≤ regs v c j := by
  induction c with
  | zero => simp [regs]
  | succ c ih => exact ih.trans (le_max_left _ _)

/-! ## Five rounds of maxima -/

/-- The candidates after `n` rounds: each round's maxima are replaced by `M`. -/
def cand (M : EReal) (C : ι → EReal) : Nat → ι → EReal
  | 0 => C
  | n + 1 => fun k => if cand M C n k = univ.sup (cand M C n) then M else cand M C n k

/-- How many candidates are the maximum in round `n`. -/
def cnt (M : EReal) (C : ι → EReal) (n : Nat) : Nat := (univ.filter fun k => cand M C n k = univ.sup (cand M C n)).card

/-- How many of the five places are open after `n` rounds. -/
def left (M : EReal) (C : ι → EReal) : Nat → Nat
  | 0 => 5
  | n + 1 => left M C n - min (cnt M C n) (left M C n)

/-- The sum collected in `n` rounds. -/
def got (M : EReal) (C : ι → EReal) : Nat → EReal
  | 0 => 0
  | n + 1 => got M C n + univ.sup (cand M C n) * (min (cnt M C n) (left M C n) : Nat)

/-- A round adds the next equal entries of the descending list. -/
private theorem sum_const {a : Nat → EReal} {T t : Nat} {m : EReal} (h : ∀ j, T ≤ j → j < T + t → a j = m) :
    ∑ j ∈ range (T + t), a j = (∑ j ∈ range T, a j) + m * (t : Nat) := by
  rw [Finset.sum_range_add, Finset.sum_congr rfl fun j hj => h (T + j) (by omega) (by simp at hj; omega)]
  rw [Finset.sum_const, card_range, EReal.nsmul_eq_mul, mul_comm m]

open Classical in
/-- What holds after `n` rounds: either all five places are taken, or the masked candidates are the largest `#S` of them,
    at least `n` many, and exactly their sum is collected. -/
private theorem rounds (M : EReal) (hM : M < 0) (C : ι → EReal) (hC : ∀ k, 0 ≤ C k) (h5 : 5 ≤ Fintype.card ι)
    (a : Nat → EReal) (ha : ∀ j < 5, IsKth C j (a j)) (n : Nat) :
    (left M C n = 0 ∧ got M C n = ∑ j ∈ range 5, a j) ∨
    ∃ S : Finset ι, n ≤ S.card ∧ S.card < 5 ∧ (∀ k ∈ S, ∀ l ∉ S, C l < C k) ∧ (∀ k, cand M C n k = if k ∈ S then M else C k) ∧
      left M C n = 5 - S.card ∧ got M C n = ∑ j ∈ range S.card, a j := by
  induction n with
  | zero => exact .inr ⟨∅, by simp, by simp, by simp, by simp [cand], by simp [left], by simp [got]⟩
  | succ n ih =>
    rcases ih with ⟨h0, hg⟩ | ⟨S, hn, hS5, hup, hcand, hleft, hgot⟩
    · exact .inl ⟨by simp [left, h0], by simp [got, h0, hg]⟩
    · -- the maximum is attained outside `S`
      obtain ⟨k0, hk0⟩ : ∃ k0, k0 ∉ S := by
        by_contra hno
        push Not at hno
        have : S = univ := by ext k; simp [hno k]
        rw [this, card_univ] at hS5
        omega
      obtain ⟨k1, -, hk1⟩ := Finset.exists_max_image univ (cand M C n) ⟨k0, mem_univ _⟩
      have hm : univ.sup (cand M C n) = cand M C n k1 :=
        le_antisymm (Finset.sup_le fun k _ => hk1 k (mem_univ _)) (Finset.le_sup (mem_univ k1))
      set m := univ.sup (cand M C n) with hmdef
      have hm0 : 0 ≤ m := by
        refine le_trans (hC k0) ?_
        have : cand M C n k0 ≤ m := Finset.le_sup (mem_univ k0)
        rwa [hcand, if_neg hk0] at this
      have hmax : ∀ k ∉ S, C k ≤ m := fun k hk => by
        have : cand M C n k ≤ m := Finset.le_sup (mem_univ k)
        rwa [hcand, if_neg hk] at this
      have hat : ∀ k, cand M C n k = m ↔ k ∉ S ∧ C k = m := fun k => by
        rw [hcand]
        split_ifs with hk
        · exact ⟨fun h => absurd (h ▸ hm0) (not_le.2 hM), fun h => absurd hk h.1⟩
        · exact ⟨fun h => ⟨hk, h⟩, fun h => h.2⟩
      let E : Finset ι := univ.filter fun k => cand M C n k = m
      have hE : ∀ k, k ∈ E ↔ k ∉ S ∧ C k = m := fun k => by simp [E, hat]
      have hcnt : cnt M C n = E.card := rfl
      have hE1 : 1 ≤ E.card := Finset.card_pos.2 ⟨k1, by simp [E, hm]⟩
      have hdisj : Disjoint S E := Finset.disjoint_left.2 fun k hk hkE => ((hE k).1 hkE).1 hk
      have hcard : (S ∪ E).card = S.card + E.card := Finset.card_union_of_disjoint hdisj
      -- the entries `a j` of this round are all `m`
      have haj : ∀ j, S.card ≤ j → j < S.card + min E.card (5 - S.card) → a j = m := by
        intro j hj1 hj2
        have hj5 : j < 5 := by omega
        apply le_antisymm
        · by_contra hlt
          have h1 := (ha j hj5 (a j)).1 le_rfl
          have h2 : above C (a j) ≤ S.card := Finset.card_le_card fun k hk => by
            simp only [mem_filter, mem_univ, true_and] at hk
            by_contra hkS
            exact hlt (hk.trans (hmax k hkS))
          omega
        · refine (ha j hj5 m).2 (lt_of_lt_of_le (b := (S ∪ E).card) (by omega) (Finset.card_le_card fun k hk => ?_))
          simp only [mem_filter, mem_univ, true_and]
          rcases Finset.mem_union.1 hk with hk | hk
          · by_cases hk1S : k1 ∈ S
            · exact absurd hk1S ((hat k1).1 hm.symm).1
            · exact (((hat k1).1 hm.symm).2 ▸ (hup k hk k1 hk1S).le)
          · exact ((hE k).1 hk).2.ge
      have hgot' : got M C (n + 1) = ∑ j ∈ range (S.card + min E.card (5 - S.card)), a j := by
        rw [sum_const haj, got, hgot, hcnt, hleft]
      have hleft' : left M C (n + 1) = 5 - (S.card + min E.card (5 - S.card)) := by
        rw [left, hcnt, hleft]; omega
      by_cases hfull : 5 ≤ S.card + E.card
      · refine .inl ⟨by rw [hleft']; omega, by rw [hgot']; congr 2; omega⟩
      · refine .inr ⟨S ∪ E, by omega, by omega, ?_, ?_, by rw [hleft', hcard]; omega, by rw [hgot', hcard]; congr 2; omega⟩
        · intro k hk l hl
          rw [Finset.mem_union, not_or] at hl
          rcases Finset.mem_union.1 hk with hk | hk
          · exact hup k hk l hl.1
          · rw [((hE k).1 hk).2]
            refine lt_of_le_of_ne (hmax l hl.1) fun h => hl.2 ((hE l).2 ⟨hl.1, h⟩)
        · intro k
          simp only [cand]
          rw [← hmdef]
          by_cases hkE : k ∈ E
          · rw [if_pos ((hat k).2 ((hE k).1 hkE)), if_pos (Finset.mem_union_right _ hkE)]
          · rw [if_neg fun h => hkE ((hE k).2 ((hat k).1 h)), hcand]
            simp only [Finset.mem_union, hkE, or_false]

/-- Five rounds collect the sum of the five largest candidates. -/
theorem got_five (M : EReal) (hM : M < 0) (C : ι → EReal) (hC : ∀ k, 0 ≤ C k) (h5 : 5 ≤ Fintype.card ι)
    (a : Nat → EReal) (ha : ∀ j < 5, IsKth C j (a j)) : got M C 5 = ∑ j ∈ range 5, a j := by
  rcases rounds M hM C hC h5 a ha 5 with h | ⟨S, h1, h2, -⟩
  · exact h.2
  · omega

/-! ## The network's candidates hold the five largest of all rows -/

/-- Each lane keeps its five largest, so up to five the candidates have as many entries above a threshold as all rows. -/
theorem lt_above_cands (v : Nat → EReal) (C : Fin 40 → EReal)
    (hC : ∀ (j : Fin 5) (i : Fin 8), C ⟨8 * j + i, by omega⟩ = regs (fun c => v (8 * c + i)) 123 j)
    {x : EReal} (hx : 0 < x) {j : Nat} (hj : j < 5) :
    j < above C x ↔ j < ((range 984).filter fun s => x ≤ v s).card := by
  classical
  let n : Fin 8 → Nat := fun i => ((range 123).filter fun c => x ≤ v (8 * c + i)).card
  have hl : above C x = ∑ i : Fin 8, min 5 (n i) := by
    have e : above C x = ∑ k : Fin (5 * 8), if x ≤ C k then 1 else 0 := by
      rw [above, Finset.card_filter]
    rw [e, ← (finProdFinEquiv (m := 5) (n := 8)).sum_comp, Fintype.sum_prod_type_right]
    refine Finset.sum_congr rfl fun i _ => ?_
    have : ∀ j : Fin 5, (if x ≤ C (finProdFinEquiv (j, i)) then 1 else 0 : Nat) = if j.val < n i then 1 else 0 := fun j => by
      have hk : (finProdFinEquiv (j, i) : Fin (5 * 8)) = ⟨8 * j + i, by omega⟩ := by
        ext; simp [finProdFinEquiv]; omega
      have := le_regs (fun c => v (8 * c + i)) 123 hx j
      rw [hk, hC j i]
      simp only [this, n]
    rw [Finset.sum_congr rfl fun j _ => this j]
    simp only [Fin.sum_univ_five]
    have : ∀ m : Nat, (if 0 < m then 1 else 0) + (if 1 < m then 1 else 0) + (if 2 < m then 1 else 0)
        + (if 3 < m then 1 else 0) + (if 4 < m then 1 else 0) = min 5 m := fun m => by
      split_ifs <;> omega
    exact this (n i)
  have hr : ((range 984).filter fun s => x ≤ v s).card = ∑ i : Fin 8, n i := by
    have e : ((range 984).filter fun s => x ≤ v s).card = ∑ k : Fin (123 * 8), if x ≤ v k then 1 else 0 := by
      rw [Finset.card_filter, Finset.sum_range]
    rw [e, ← (finProdFinEquiv (m := 123) (n := 8)).sum_comp, Fintype.sum_prod_type_right]
    refine Finset.sum_congr rfl fun i _ => ?_
    simp only [n]
    rw [Finset.card_filter, Finset.sum_range]
    refine Finset.sum_congr rfl fun c _ => ?_
    have hk : ((finProdFinEquiv (c, i) : Fin (123 * 8)) : Nat) = 8 * c + i := by
      simp [finProdFinEquiv]; omega
    rw [hk]
  rw [hl, hr]
  constructor
  · intro h
    exact lt_of_lt_of_le h (Finset.sum_le_sum fun i _ => min_le_right _ _)
  · intro h
    by_cases hbig : ∃ i, 5 ≤ n i
    · obtain ⟨i, hi⟩ := hbig
      have : min 5 (n i) ≤ ∑ i : Fin 8, min 5 (n i) :=
        Finset.single_le_sum (f := fun i => min 5 (n i)) (fun _ _ => Nat.zero_le _) (mem_univ i)
      omega
    · push Not at hbig
      rwa [Finset.sum_congr rfl fun i _ => min_eq_right (hbig i).le]

/-- Network and rounds together: the sum of the five largest of the first 980 rows, when the four pad rows are zero and the
    others nonnegative, and `a` lists the largest of the 980 in order. -/
theorem got_network (M : EReal) (hM : M < 0) (v : Nat → EReal) (C : Fin 40 → EReal)
    (hC : ∀ (j : Fin 5) (i : Fin 8), C ⟨8 * j + i, by omega⟩ = regs (fun c => v (8 * c + i)) 123 j)
    (hv : ∀ s, 0 ≤ v s) (hpad : ∀ s, 980 ≤ s → s < 984 → v s = 0)
    (a : Nat → EReal) (ha : ∀ j < 5, IsKth (fun s : Fin 980 => v s) j (a j)) :
    got M C 5 = ∑ j ∈ range 5, a j := by
  classical
  have hC0 : ∀ k, 0 ≤ C k := fun k => by
    have : k = ⟨8 * (⟨k / 8, by omega⟩ : Fin 5).val + (⟨k % 8, by omega⟩ : Fin 8).val, by simp; omega⟩ := by
      ext; simp; omega
    rw [this, hC]
    exact regs_nonneg _ _ _
  refine got_five M hM C hC0 (by simp) a fun j hj x => ?_
  rw [ha j hj x]
  by_cases hx : 0 < x
  · rw [lt_above_cands v C hC hx hj]
    have : above (fun s : Fin 980 => v s) x = ((range 984).filter fun s => x ≤ v s).card := by
      rw [above, Finset.card_filter, Finset.card_filter, ← Finset.sum_range fun s => if x ≤ v s then 1 else 0,
        show 984 = 980 + 4 from rfl, Finset.sum_range_add]
      symm
      rw [Nat.add_eq_left]
      refine Finset.sum_eq_zero fun s hs => if_neg ?_
      have hs4 := Finset.mem_range.1 hs
      rw [hpad (980 + s) (by omega) (by omega)]
      exact not_le.2 hx
    rw [this]
  · have hx := not_lt.1 hx
    have h1 : above (fun s : Fin 980 => v s) x = 980 := by
      unfold above; rw [Finset.filter_true_of_mem fun (s : Fin 980) _ => hx.trans (hv s)]; simp
    have h2 : above C x = 40 := by
      rw [above, Finset.filter_true_of_mem fun s _ => hx.trans (hC0 s)]; simp
    rw [h1, h2]; omega

end Cert.Proof.Top5

end
-- ==== Proof.Model.lean ====
/- The head's mathematics over the extended reals, as functions of the six arguments: patches, features, the normalised
   support descriptors, the prototypes, the pooled queries. -/
module

public import proofs.«01_k».proof.KernelIdeal
public import proofs.«01_k».proof.Proof.Top5
public import Idealize.ShloMosaic.PureOps.Ideal
public import Idealize.ShloMosaic.Lib.Pointwise
public import Mathlib.Data.EReal.Inv

@[expose] public section

noncomputable section

namespace Cert.Proof.Model

open Idealize.ShloMosaic Cert.KernelIdeal

/-- The named 1/980. -/
theorem inv_shw : Named.named (F := Ideal) (φ := .f32) κ "inv_shw" 0x3A85BF37#32 = ((1 / 980 : ℝ) : EReal) :=
  IdealRules.named_const.ideal_named_scalar _ _ _ _ rfl

/-- The named 1/196. -/
theorem inv_hw : Named.named (F := Ideal) (φ := .f32) κ "inv_hw" 0x3BA72F05#32 = ((1 / 196 : ℝ) : EReal) :=
  IdealRules.named_const.ideal_named_scalar _ _ _ _ rfl

/-- The named 1/5. -/
theorem inv_k : Named.named (F := Ideal) (φ := .f32) κ "inv_k" 0x3E4CCCCD#32 = ((1 / 5 : ℝ) : EReal) :=
  IdealRules.named_const.ideal_named_scalar _ _ _ _ rfl

/-- The reference's floor of a norm, the number its float literal is. -/
def eps : ℝ := 2305843 / 2 ^ 61

/-- The floor of a norm is positive. -/
theorem eps_pos : 0 < eps := by norm_num [eps]

/-- The named floor of a squared norm is the floor's square. -/
theorem eps_sq : Named.named (F := Ideal) (φ := .f32) κ "eps_sq" 0x179ABE15#32 = ((eps * eps : ℝ) : EReal) :=
  (IdealRules.named_const.ideal_named_scalar _ _ _ _ rfl).trans (congrArg (fun r : ℝ => (r : EReal)) (by norm_num [eps]))

/-- Entry `k` of patch row `r` of the support images: image `r / 196`, patch `r % 196`. -/
def patchS (x : S1x5x5x3x224x224.Idx → EReal) (r : Fin 4900) (k : Fin 768) : EReal :=
  x (ix6 0 ⟨r / 196 / 5, by omega⟩ ⟨r / 196 % 5, by omega⟩ ⟨k / 256, by omega⟩ ⟨r / 14 % 14 * 16 + k / 16 % 16, by omega⟩
    ⟨r % 14 * 16 + k % 16, by omega⟩)

/-- Entry `k` of patch row `r` of the query images. -/
def patchQ (x : S1x75x3x224x224.Idx → EReal) (r : Fin 14700) (k : Fin 768) : EReal :=
  x (ix5 0 ⟨r / 196, by omega⟩ ⟨k / 256, by omega⟩ ⟨r / 14 % 14 * 16 + k / 16 % 16, by omega⟩ ⟨r % 14 * 16 + k % 16, by omega⟩)

/-- Entry `k` of the encoder's filter `d`. -/
def weight (x : S384x3x16x16.Idx → EReal) (k : Fin 768) (d : Fin 384) : EReal :=
  x (ix4 d ⟨k / 256, by omega⟩ ⟨k / 16 % 16, by omega⟩ ⟨k % 16, by omega⟩)

/-- One feature of one patch: the filter applied to it, the bias added, the negative part cut off. -/
def feat (patch : Fin 768 → EReal) (wt : S384x3x16x16.Idx → EReal) (b : S384.Idx → EReal) (d : Fin 384) : EReal :=
  max ((∑ k, patch k * weight wt k d) + b (ix1 d)) 0

/-- The features of a matrix of patches, one row a patch. -/
def feats {n : Nat} (p : Fin n → Fin 768 → EReal) (w : Fin 768 → Fin 384 → EReal) (b : Fin 384 → EReal) (r : Fin n) (d : Fin 384) : EReal :=
  max ((∑ k, p r k * w k d) + b d) 0

/-- A feature is not negative. -/
theorem feat_nonneg (patch : Fin 768 → EReal) (wt : S384x3x16x16.Idx → EReal) (b : S384.Idx → EReal) (d : Fin 384) :
    0 ≤ feat patch wt b d := le_max_right _ _

/-- Row `s` of way `w` among the support rows. -/
abbrev rowS (w : Fin 5) (s : Fin 980) : Fin 4900 := ⟨980 * w + s, by omega⟩

/-- Row `p` of query `q` among the query rows. -/
abbrev rowQ (q : Fin 75) (p : Fin 196) : Fin 14700 := ⟨196 * q + p, by omega⟩

section
variable (A : Fin 4900 → Fin 384 → EReal)

/-- A way's support descriptor with every channel divided by its norm over the way's 980 rows. -/
def sn (w : Fin 5) (s : Fin 980) (d : Fin 384) : EReal :=
  A (rowS w s) d * Ideal.rsqrt (∑ s', A (rowS w s') d * A (rowS w s') d)

/-- A way's prototype. -/
def proto (w : Fin 5) (d : Fin 384) : EReal := (∑ s, A (rowS w s) d) * ((1 / 980 : ℝ) : EReal)

/-- The factor that normalises a vector of squared norm `x` in the cosine. -/
def unit (x : EReal) : EReal := Ideal.rsqrt (max x ((eps * eps : ℝ) : EReal))

/-- A way's normalised prototype. -/
def pn (w : Fin 5) (d : Fin 384) : EReal := proto A w d * unit (∑ e, proto A w e * proto A w e)

/-- The inverse norm of one descriptor, zero where the norm is zero. -/
def rinv (q : Fin 384 → EReal) : EReal :=
  if 0 < ∑ d, q d * q d then Ideal.rsqrt (∑ d, q d * q d) else 0

/-- The inner products of one query descriptor with a way's 980 support descriptors. -/
def inner (w : Fin 5) (q : Fin 384 → EReal) (s : Fin 980) : EReal := ∑ d, sn A w s d * q d

/-- The `j`-th largest of 980 values, the largest being the 0-th. -/
def kth (v : Fin 980 → EReal) (j : Nat) : EReal :=
  if h : j < 980 then Classical.choose (Top5.exists_isKth v (j := j) (by simpa using h)) else 0

/-- `kth` is the value of its rank. -/
theorem kth_spec (v : Fin 980 → EReal) (j : Nat) (hj : j < 5) : Top5.IsKth v j (kth v j) := by
  have h : j < 980 := by omega
  rw [kth, dif_pos h]
  exact Classical.choose_spec (Top5.exists_isKth v (by simpa using h))

variable (Q : Fin 14700 → Fin 384 → EReal)

/-- A query's mean descriptor. -/
def qmean (q : Fin 75) (d : Fin 384) : EReal := (∑ p, Q (rowQ q p) d) * ((1 / 196 : ℝ) : EReal)

/-- The score of query `q` against class `w`, as the kernel arranges it. -/
def score (rcos rdn4 : EReal) (w : Fin 5) (q : Fin 75) : EReal :=
  rcos * (∑ d, qmean Q q d * unit (∑ e, qmean Q q e * qmean Q q e) * pn A w d) +
    rdn4 * ((1 / 5 : ℝ) : EReal) *
      ∑ p, (∑ j ∈ Finset.range 5, kth (inner A w (Q (rowQ q p))) j) * rinv (Q (rowQ q p))

/-- An inverse root of a value that is not negative is not negative. -/
theorem rsqrt_nonneg {x : EReal} (h : 0 ≤ x) : 0 ≤ Ideal.rsqrt x := by
  induction x with
  | bot => exact absurd h (by simp)
  | top => exact le_rfl
  | coe r =>
    have h : 0 ≤ r := EReal.coe_nonneg.1 h
    show 0 ≤ (if r < 0 then ⊥ else if r = 0 then ⊤ else ((Real.sqrt r)⁻¹ : ℝ) : EReal)
    rw [if_neg (not_lt.2 h)]
    split
    · exact le_top
    · exact EReal.coe_nonneg.2 (inv_nonneg.2 (Real.sqrt_nonneg r))

/-- A normalised support feature is not negative. -/
theorem sn_nonneg {A : Fin 4900 → Fin 384 → EReal} (hA : ∀ r d, 0 ≤ A r d) (w : Fin 5) (s : Fin 980) (d : Fin 384) : 0 ≤ sn A w s d :=
  mul_nonneg (hA _ _) (rsqrt_nonneg (Finset.sum_nonneg fun _ _ => mul_nonneg (hA _ _) (hA _ _)))

/-- An inner product is not negative. -/
theorem inner_nonneg {A : Fin 4900 → Fin 384 → EReal} (hA : ∀ r d, 0 ≤ A r d) (w : Fin 5) {q : Fin 384 → EReal} (hq : ∀ d, 0 ≤ q d)
    (s : Fin 980) : 0 ≤ inner A w q s :=
  Finset.sum_nonneg fun _ _ => mul_nonneg (sn_nonneg hA _ _ _) (hq _)

end

end Cert.Proof.Model

end
-- ==== Proof.Columns.lean ====
/- The third call's top-five search read at one column of inner products. -/
module

public import proofs.«01_k».proof.Proof.Spec
public import proofs.«01_k».proof.Proof.Top5
public import proofs.«01_k».proof.Proof.Model
public import Idealize.ShloMosaic.Lib.Pointwise

@[expose] public section

set_option maxRecDepth 16384

noncomputable section

namespace Cert.Proof.Columns

open Idealize.ShloMosaic Idealize.ShloMosaic.TcCoe Idealize.ShloMosaic.Tactic Cert.KernelIdeal Cert.KernelIdeal.Gen
open Cert.Proof

variable {W : Nat} (h : Dn4.Width W) (x : FVec Ideal ⟨2, ![984, W]⟩ .f32) (n : Fin W)

/-- The column's inner products as a sequence. -/
def col (s : Nat) : EReal := x (ix2 ⟨min s 983, by omega⟩ n)

/-- Row `i` of chunk `c` is row `8c + i` of the array. -/
theorem chunk_apply (c : Nat) (hc : c < 123) (i : Fin 8) : Dn4.chunk h x c (ix2 i n) = col x n (8 * c + i) := by
  refine congrArg x (funext fun a => ?_)
  fin_cases a <;> simp [ix2, Fin.ext_iff] <;> omega

/-- The value handed down through the registers, in one column. -/
theorem carry_apply (r : Nat → FVec Ideal ⟨2, ![8, W]⟩ .f32) (v : FVec Ideal ⟨2, ![8, W]⟩ .f32) (i : Fin 8) (j : Nat) :
    Dn4.carry r v j (ix2 i n) = Top5.carry (fun j => r j (ix2 i n)) (v (ix2 i n)) j := by
  induction j with
  | zero => rfl
  | succ j ih =>
    show min (r j (ix2 i n)) (Dn4.carry r v j (ix2 i n)) = _
    rw [ih]
    rfl

/-- The five registers after `c` chunks, in one column. -/
theorem regs_apply (i : Fin 8) (c : Nat) (hc : c ≤ 123) (j : Nat) :
    Dn4.regs h x c j (ix2 i n) = Top5.regs (fun c => col x n (8 * c + i)) c j := by
  induction c generalizing j with
  | zero => exact Ideal.ofBits_zero_f32
  | succ c ih =>
    show max (Dn4.regs h x c j (ix2 i n)) (Dn4.carry (Dn4.regs h x c) (Dn4.chunk h x c) j (ix2 i n)) = _
    rw [carry_apply, chunk_apply h x n c (by omega), ih (by omega)]
    simp only [ih (Nat.le_of_succ_le hc)]
    rfl

/-- The forty candidates of a column: register `j`, lane `i`. -/
theorem cands_apply (j : Fin 5) (i : Fin 8) :
    Dn4.cands h x (ix2 ⟨8 * j + i, by omega⟩ n) = Top5.regs (fun c => col x n (8 * c + i)) 123 j := by
  rw [← regs_apply h x n i 123 le_rfl j]
  have e (y : FVec Ideal ⟨2, ![8, W]⟩ .f32) (j : (⟨2, ![8, W]⟩ : Shape).Idx) (h0 : (j 0).val = i.val) (h1 : (j 1).val = n.val) :
      y j = y (ix2 i n) := congrArg y (funext fun a => by fin_cases a <;> [exact Fin.ext h0; exact Fin.ext h1])
  fin_cases j <;> pointwise [Dn4.cands]
  all_goals (repeat' split)
  all_goals first
    | omega
    | exact e _ _ (by simp [Shape.Idx.norm] <;> omega) (by first | rfl | (simp [Shape.Idx.norm]; rfl))

/-- The word of −∞. -/
theorem ofBits_bot : Ideal.ofBits .f32 0xFF800000#32 = (⊥ : EReal) := by simp [Ideal.ofBits, Ideal.ieee]

/-- The float 5. -/
theorem ofBits_five : Ideal.ofBits .f32 0x40A00000#32 = ((5 : ℕ) : EReal) := by
  rw [show ((5 : ℕ) : EReal) = ((5 : ℝ) : EReal) by norm_cast]
  simp [Ideal.ofBits, Ideal.ieee, -EReal.coe_mul]
  norm_num

/-- What a taken candidate is replaced by. -/
def M : EReal := Ideal.ofBits .f32 0xFF7FC99E#32

/-- What a taken candidate is replaced by is negative. -/
theorem M_neg : M < 0 := by
  have e : M = ((-(16763294 * 2 ^ 104) : ℝ) : EReal) := by
    simp [M, Ideal.ofBits, Ideal.ieee, -EReal.coe_mul, -EReal.coe_neg]
  rw [e, ← EReal.coe_zero, EReal.coe_lt_coe_iff]
  norm_num

/-- A row and the vector of its entries have the same positions. -/
theorem cast_ix (z : Fin 1) (e : (⟨2, ![1, W]⟩ : Shape).numel = (⟨1, ![W]⟩ : Shape).numel) :
    (Shape.reshapeEquiv e (ix2 z n : (⟨2, ![1, W]⟩ : Shape).Idx) : (⟨1, ![W]⟩ : Shape).Idx) = ix1 n := by
  refine Shape.reshapeEquiv_eq_of_rowMajor e ?_
  rw [Shape.rowMajor_val_two, Shape.rowMajor_val_one]
  show n.val = z.val * W + n.val
  rw [Nat.lt_one_iff.1 z.isLt, Nat.zero_mul, Nat.zero_add]

/-- The largest candidate of a column. -/
theorem colMax_apply (c : FVec Ideal ⟨2, ![40, W]⟩ .f32) (z : Fin 1) :
    Dn4.colMax h c (ix2 z n) = Finset.univ.sup fun k : Fin 40 => c (ix2 k n) := by
  pointwise [Dn4.colMax]
  rw [ofBits_bot, cast_ix]
  rfl

/-- The mark of the candidates that equal the largest. -/
theorem atMax_apply (c : FVec Ideal ⟨2, ![40, W]⟩ .f32) (k : Fin 40) :
    Dn4.atMax h c (ix2 k n) = if c (ix2 k n) = Finset.univ.sup fun k : Fin 40 => c (ix2 k n) then 1#1 else 0#1 := by
  rw [← colMax_apply h n c 0]
  pointwise [Dn4.atMax]
  have e : (Shape.Idx.norm fun a => if h : ![1, W] a = 1 then ⟨0, by show 0 < ![1, W] a; rw [h]; exact Nat.one_pos⟩ else ⟨(ix2 k n a).val, by
      fin_cases a <;> [exact absurd rfl h; exact n.isLt]⟩ : (⟨2, ![1, W]⟩ : Shape).Idx) = ix2 0 n := by
    funext a
    fin_cases a
    · rfl
    · refine Fin.ext ?_
      simp only [Shape.Idx.norm]
      split
      · next h1 => exact (Nat.lt_one_iff.1 (lt_of_lt_of_eq n.isLt h1)).symm
      · rfl
  rw [e]
  by_cases h1 : c (ix2 k n) = Dn4.colMax h c (ix2 0 n) <;> simp [h1]

/-- A truth bit turned into a number is 1 or 0. -/
theorem bit_num (p : Prop) [Decidable p] :
    FloatOps.sitofp (F := Ideal) .f32 (BitVec.setWidth 32 (if p then 1#1 else 0#1)) = (if p then 1 else 0 : EReal) := by
  show ((((BitVec.setWidth 32 (if p then 1#1 else 0#1 : BitVec 1)).toInt : ℝ)) : EReal) = _
  split <;> simp

/-- The number of candidates that equal the largest. -/
theorem cntMax_apply (c : FVec Ideal ⟨2, ![40, W]⟩ .f32) (z : Fin 1) :
    Dn4.cntMax h c (ix2 z n) =
      ((Finset.univ.filter fun k : Fin 40 => c (ix2 k n) = Finset.univ.sup fun k : Fin 40 => c (ix2 k n)).card : EReal) := by
  pointwise [Dn4.cntMax]
  rw [cast_ix, Finset.card_filter]
  push_cast
  refine Finset.sum_congr rfl fun k _ => ?_
  rw [atMax_apply, bit_num]

/-- The candidates after `r` rounds, in one column. -/
theorem cand_apply (c : FVec Ideal ⟨2, ![40, W]⟩ .f32) (r : Nat) (k : Fin 40) :
    Dn4.cand h c r (ix2 k n) = Top5.cand M (fun k : Fin 40 => c (ix2 k n)) r k := by
  induction r generalizing k with
  | zero => rfl
  | succ r ih =>
    show (if Dn4.atMax h (Dn4.cand h c r) (ix2 k n) = 1#1 then M else Dn4.cand h c r (ix2 k n)) = _
    rw [atMax_apply]
    simp only [ih]
    show _ = if _ then _ else _
    split <;> simp_all

/-- The count in round `r`, in one column. -/
theorem cntMax_cand (c : FVec Ideal ⟨2, ![40, W]⟩ .f32) (r : Nat) (z : Fin 1) :
    Dn4.cntMax h (Dn4.cand h c r) (ix2 z n) = (Top5.cnt M (fun k : Fin 40 => c (ix2 k n)) r : EReal) := by
  rw [cntMax_apply]
  simp only [cand_apply]
  rfl

/-- The smaller of two natural numbers, as extended reals. -/
theorem min_nat (a b : Nat) : min (a : EReal) (b : EReal) = ((min a b : Nat) : EReal) := by
  rcases le_total a b with h | h
  · rw [min_eq_left h, min_eq_left (by exact_mod_cast h)]
  · rw [min_eq_right h, min_eq_right (by exact_mod_cast h)]

/-- The difference of two natural numbers, as extended reals. -/
theorem nat_sub {a b : Nat} (h : b ≤ a) : (a : EReal) - (b : EReal) = ((a - b : Nat) : EReal) := by
  rw [← EReal.coe_natCast, ← EReal.coe_natCast, ← EReal.coe_natCast, ← EReal.coe_sub, Nat.cast_sub h]

/-- How many values are still to be taken after `r` rounds. -/
theorem left_apply (c : FVec Ideal ⟨2, ![40, W]⟩ .f32) (r : Nat) (z : Fin 1) :
    Dn4.left h c r (ix2 z n) = (Top5.left M (fun k : Fin 40 => c (ix2 k n)) r : EReal) := by
  induction r with
  | zero => exact ofBits_five
  | succ r ih =>
    show Dn4.left h c r (ix2 z n) - min (Dn4.cntMax h (Dn4.cand h c r) (ix2 z n)) (Dn4.left h c r (ix2 z n)) = _
    rw [ih, cntMax_cand, min_nat]
    exact nat_sub (Nat.min_le_right _ _)

/-- The sum taken after `r` rounds. -/
theorem got_apply (c : FVec Ideal ⟨2, ![40, W]⟩ .f32) (r : Nat) (z : Fin 1) :
    Dn4.got h c r (ix2 z n) = Top5.got M (fun k : Fin 40 => c (ix2 k n)) r := by
  induction r with
  | zero => exact Ideal.ofBits_zero_f32
  | succ r ih =>
    show Dn4.got h c r (ix2 z n) + Dn4.colMax h (Dn4.cand h c r) (ix2 z n) *
      min (Dn4.cntMax h (Dn4.cand h c r) (ix2 z n)) (Dn4.left h c r (ix2 z n)) = _
    rw [ih, cntMax_cand, left_apply, min_nat, colMax_apply]
    simp only [cand_apply]
    rfl

/-- The sum the search collects in a column with no negative entry and zeros in its last four rows: the five largest. -/
theorem got_eq (v : Fin 980 → EReal) (hv : ∀ s, 0 ≤ v s)
    (hx : ∀ s : Fin 984, x (ix2 s n) = if h : s.val < 980 then v ⟨s, h⟩ else 0)
    (a : Nat → EReal) (ha : ∀ j < 5, Top5.IsKth v j (a j)) (z : Fin 1) :
    Dn4.got h (Dn4.cands h x) 5 (ix2 z n) = ∑ j ∈ Finset.range 5, a j := by
  rw [got_apply]
  refine Top5.got_network M M_neg (col x n) _ (fun j i => cands_apply h x n j i) (fun s => ?_) (fun s h1 h2 => ?_) a fun j hj => ?_
  · unfold col
    rw [hx]
    split
    · exact hv _
    · exact le_rfl
  · unfold col
    rw [hx, dif_neg (by simp; omega)]
  · have e : (fun s : Fin 980 => col x n s) = v := funext fun s => by
      unfold col
      rw [hx, dif_pos (by simp only; omega)]
      exact congrArg v (Fin.ext (by simp only; omega))
    rw [e]
    exact ha j hj

end Cert.Proof.Columns

end
-- ==== Proof.Words.lean ====
/- The printed floor quotient of a column number by 196, and the 0/1 weight that says whether a column is a query's. -/
module

public import proofs.«01_k».proof.KernelIdeal
public import Idealize.ShloMosaic.Lib.Pointwise

@[expose] public section

noncomputable section

namespace Cert.Proof.Words

open Idealize.ShloMosaic

/-- The floor quotient by 196 as it prints: the quotient, less one where the signs differ and the remainder is not zero. -/
def quot (x : BitVec 32) : BitVec 32 :=
  Scalar.select (IntOp.andi
      (IntOp.cmpi .ne (IntOp.subi (BitVec.setWidth 32 (IntOp.cmpi .sgt x 0#32)) (BitVec.setWidth 32 (IntOp.cmpi .slt x 0#32)))
        (Scalar.subi (Scalar.extui (Scalar.cmpi .sgt 196#32 0#32)) (Scalar.extui (Scalar.cmpi .slt 196#32 0#32))))
      (IntOp.cmpi .ne (IntOp.remsi .vector x 196#32) 0#32))
    (IntOp.subi (IntOp.divsi .vector x 196#32) 1#32) (IntOp.divsi .vector x 196#32)

/-- At a column number it is the number of the column's query. -/
theorem quot_word : ∀ n : Fin 3200, quot (BitVec.ofNat 32 n) = BitVec.ofNat 32 (n / 196) := by
  decide +kernel

/-- The printed comparison of a column's query with a row number, as a number. -/
theorem weight_word (n : Fin 3200) (q : Fin 16) :
    FloatOps.sitofp (F := Ideal) .f32 (BitVec.setWidth 32 (IntOp.cmpi .eq (quot (BitVec.ofNat 32 n)) (BitVec.ofNat 32 q))) =
      ((if n.val / 196 = q.val then 1 else 0 : ℝ) : EReal) := by
  have e : ∀ (a : Fin 17) (b : Fin 16), BitVec.setWidth 32 (IntOp.cmpi .eq (BitVec.ofNat 32 a) (BitVec.ofNat 32 b)) =
      if a.val = b.val then 1#32 else 0#32 := by decide +kernel
  rw [quot_word, e ⟨n / 196, by omega⟩ q]
  show (((if n.val / 196 = q.val then 1#32 else 0#32 : BitVec 32).toInt : ℝ) : EReal) = _
  split <;> simp

end Cert.Proof.Words

end
-- ==== Proof.Score.lean ====
/- The third call's body read at an index: the score of one query against one class from the blocks it reads. -/
module

public import proofs.«01_k».proof.Proof.Columns
public import proofs.«01_k».proof.Proof.Words

@[expose] public section

set_option maxRecDepth 16384

noncomputable section

namespace Cert.Proof.Score

open Idealize.ShloMosaic Idealize.ShloMosaic.TcCoe Idealize.ShloMosaic.Tactic Cert.KernelIdeal Cert.KernelIdeal.Gen
open Cert.Proof Cert.Proof.Words

variable (q : Vec Ideal S384x3200 .bf16) (s : Vec Ideal S1x984x384 .bf16) (ri : Vec Ideal S1x1x3200 .f32)
  (qm : Vec Ideal S1x16x384 .f32) (pn : Vec Ideal S1x1x384 .f32) (rcos rdn4 : EReal)

/-- The inner products of the first group of columns. -/
theorem inner1_apply (k : Fin 984) (n : Fin 1664) :
    Dn4.inner1 q s (ix2 k n) = ∑ d : Fin 384, s (ix3 0 k d) * q (ix2 d (⟨n, by omega⟩ : Fin 3200)) := by
  pointwise [Dn4.inner1]

/-- The inner products of the second group of columns. -/
theorem inner2_apply (k : Fin 984) (n : Fin 1536) :
    Dn4.inner2 q s (ix2 k n) = ∑ d : Fin 384, s (ix3 0 k d) * q (ix2 d (⟨1664 + n, by omega⟩ : Fin 3200)) := by
  pointwise [Dn4.inner2]

/-- The top-five sum of column `n`, whose inner products are `v` with four zeros below. -/
theorem tops_eq (n : Fin 3200) (v : Fin 980 → EReal) (hv : ∀ k, 0 ≤ v k)
    (hx : ∀ k : Fin 984, ∑ d : Fin 384, s (ix3 0 k d) * q (ix2 d n) = if h : k.val < 980 then v ⟨k, h⟩ else 0)
    (a : Nat → EReal) (ha : ∀ j < 5, Top5.IsKth v j (a j)) (z : Fin 1) :
    Dn4.tops q s (ix2 z n) = ∑ j ∈ Finset.range 5, a j := by
  by_cases hn : n.val < 1664
  · rw [← Columns.got_eq Dn4.width1664 (Dn4.inner1 q s) ⟨n, hn⟩ v hv (fun k => (inner1_apply q s k ⟨n, hn⟩).trans (hx k)) a ha z]
    pointwise [Dn4.tops]
    rw [dif_pos hn, Subsingleton.elim z 0]
  · rw [← Columns.got_eq Dn4.width1536 (Dn4.inner2 q s) ⟨n - 1664, by omega⟩ v hv (fun k => (inner2_apply q s k ⟨n - 1664, by omega⟩).trans
      (by simp only [Nat.add_sub_cancel' (not_lt.1 hn)]; exact hx k)) a ha z]
    pointwise [Dn4.tops]
    rw [dif_neg hn, Subsingleton.elim z 0]

/-- A query's local score: the sum of its columns' scaled top-five sums. -/
theorem dn4_apply (i : Fin 16) (z : Fin 1) :
    Dn4.dn4 q s ri (ix2 i z) = ∑ n : Fin 3200, ((if n.val / 196 = i.val then 1 else 0 : ℝ) : EReal) *
      (Dn4.tops q s (ix2 0 n) * ri (ix3 0 0 n)) := by
  pointwise [Dn4.dn4, Dn4.sel, Dn4.colQuery]
  exact Finset.sum_congr rfl fun n _ => congrArg (· * _) (weight_word n i)

/-- A query's cosine with the way's prototype. -/
theorem cosQ_apply (i : Fin 16) (z : Fin 1) :
    Dn4.cosQ qm pn (ix2 i z) = ∑ d : Fin 384, qm (ix3 0 i d) * Model.unit (∑ e : Fin 384, qm (ix3 0 i e) * qm (ix3 0 i e)) *
      pn (ix3 0 0 d) := by
  pointwise [Dn4.cosQ]
  rw [Model.eps_sq]
  rfl

/-- The block's entry: the weighted sum of the two scores. -/
theorem out_apply (z : Fin 1) (i : Fin 16) (l : Fin 128) :
    Dn4.out q s ri qm pn rcos rdn4 (ix3 z i l) = rcos * Dn4.cosQ qm pn (ix2 i 0) +
      rdn4 * ((1 / 5 : ℝ) : EReal) * Dn4.dn4 q s ri (ix2 i 0) := by
  pointwise [Dn4.out]
  rw [Model.inv_k]

/-- The score of row `i`, from what the blocks hold. -/
theorem out_eq (z : Fin 1) (i : Fin 16) (l : Fin 128)
    {S : Fin 984 → Fin 384 → EReal} (hS : ∀ k d, s (ix3 0 k d) = S k d) {T : Fin 384 → Fin 3200 → EReal} (hT : ∀ d n, q (ix2 d n) = T d n)
    {R : Fin 3200 → EReal} (hR : ∀ n, ri (ix3 0 0 n) = R n) {G : Fin 384 → EReal} (hG : ∀ d, qm (ix3 0 i d) = G d)
    {P : Fin 384 → EReal} (hP : ∀ d, pn (ix3 0 0 d) = P d)
    (v : Fin 3200 → Fin 980 → EReal) (hv : ∀ n k, 0 ≤ v n k)
    (hx : ∀ (n : Fin 3200) (k : Fin 984), ∑ d : Fin 384, S k d * T d n = if h : k.val < 980 then v n ⟨k, h⟩ else 0)
    (a : Fin 3200 → Nat → EReal) (ha : ∀ n, ∀ j < 5, Top5.IsKth (v n) j (a n j)) :
    Dn4.out q s ri qm pn rcos rdn4 (ix3 z i l) = rcos * (∑ d, G d * Model.unit (∑ e, G e * G e) * P d) +
      rdn4 * ((1 / 5 : ℝ) : EReal) * ∑ n : Fin 3200, ((if n.val / 196 = i.val then 1 else 0 : ℝ) : EReal) *
        ((∑ j ∈ Finset.range 5, a n j) * R n) := by
  have ht (n : Fin 3200) : Dn4.tops q s (ix2 0 n) = ∑ j ∈ Finset.range 5, a n j := by
    refine tops_eq q s n (v n) (hv n) (fun k => ?_) (a n) (ha n) 0
    simp only [hS, hT]
    exact hx n k
  rw [out_apply, cosQ_apply, dn4_apply]
  simp only [ht, hR, hG, hP]

end Cert.Proof.Score

end
-- ==== Proof.Blocks.lean ====
/- The third call's array: which entries of the arrays it reads decide one score. -/
module

public import proofs.«01_k».proof.Proof.Body
public import proofs.«01_k».proof.Proof.Score
public import proofs.«01_k».proof.Proof.Gen.KernelIdeal.Frame
public import Idealize.ShloMosaic.Lib.Pipeline.ValueKit

@[expose] public section

set_option maxRecDepth 16384

noncomputable section

namespace Cert.Proof.Blocks

open Idealize.ShloMosaic Idealize.ShloMosaic.TcCoe Idealize.ShloMosaic.Tactic Cert.KernelIdeal Cert.KernelIdeal.Gen
open Cert.Proof

variable (V : (c : Dev nD) → (b : Ref sig .tc) → Buf (Elt Ideal) ((c : Thread nD τ).loc b))

/-- What one grid point leaves in its block. -/
def block (c : Dev nD) (t : Fin cfg2.N) : FVec Ideal S1x16x128 .f32 :=
  Dn4.out (iblk2 V c 1 t) (iblk2 V c 0 t)
    (View.ld (S := S1x8x3200) (iblk2 V c 2 t) (Rect.unit (s := S1x8x3200) ![0, 0, 0] S1x1x3200.size inb_S1x8x3200_S1x1x3200_0_0_0))
    (iblk2 V c 3 t)
    (View.ld (S := S1x8x384) (iblk2 V c 4 t) (Rect.unit (s := S1x8x384) ![0, 0, 0] S1x1x384.size inb_S1x8x384_S1x1x384_0_0_0))
    (iblk2 V c 5 t (ix1 0)) (iblk2 V c 6 t (ix1 0))

/-- What a step of the third call writes, as the block defined above. -/
theorem outsAt2_eq (c : Dev nD) (t : Fin cfg2.N) : outsAt2 V c t = block V c t := by
  have h1 : (![0] : Fin 1 → Nat) = fun _ => 0 := funext (by decide)
  have h2 : (![0, 0] : Fin 2 → Nat) = fun _ => 0 := funext (by decide)
  have h3 : (![0, 0, 0] : Fin 3 → Nat) = fun _ => 0 := funext (by decide)
  unfold outsAt2 out2_A_7 block
  rw [View.read_writes_eq_canon _ _ _ (cover2_A_7 c _ _ _ _ _ _ _ _ _ _ _ _ _ _ _ _ _ _ _ _ _ _ _ _), Dn4.pieces_eq]
  refine (View.canon_unit_zero (S := S1x16x128) h3 _ _).trans ?_
  simp only [View.readAt_eq_ld, Memref.IsWhole.read_unread]
  rw [View.ld_unit_zero (S := S384x3200) h2, View.ld_unit_zero (S := S1x984x384) h3, View.ld_unit_zero (S := S1x16x384) h3,
    View.ld_unit_zero (S := S1) h1, View.ld_unit_zero (S := S1) h1]
  have e : (Shape.Idx.first (lt_of_lt_of_eq Nat.one_pos numel1_S1.symm) : S1.Idx) = ix1 0 :=
    funext fun a => by fin_cases a; exact Subsingleton.elim (α := Fin 1) _ _
  rw [e]

/-- The read of the inverse norms takes the block's first row. -/
theorem ld_ri (x : Vec Ideal S1x8x3200 .f32) (n : Fin 3200) : View.ld (S := S1x8x3200) x
    (Rect.unit (s := S1x8x3200) ![0, 0, 0] S1x1x3200.size inb_S1x8x3200_S1x1x3200_0_0_0) (ix3 0 0 n) = x (ix3 0 0 n) := by
  pointwise []

/-- The read of the prototype takes the block's first row. -/
theorem ld_pn (x : Vec Ideal S1x8x384 .f32) (d : Fin 384) : View.ld (S := S1x8x384) x
    (Rect.unit (s := S1x8x384) ![0, 0, 0] S1x1x384.size inb_S1x8x384_S1x1x384_0_0_0) (ix3 0 0 d) = x (ix3 0 0 d) := by
  pointwise []

/-- The score at row `i` of the block of point `t`, from the arrays the point reads. -/
theorem block_apply (c : Dev nD) (t : Fin 25) (z : Fin 1) (i : Fin 16) (l : Fin 128)
    {S : Fin 5 → Fin 984 → Fin 384 → EReal} (hS : ∀ w s d, V c main_v15_0 (ix3 w s d) = S w s d)
    {P : Fin 5 → Fin 384 → EReal} (hP : ∀ w d, V c main_v15_1 (ix3 w 0 d) = P w d)
    {T : Fin 384 → Fin 16000 → EReal} (hT : ∀ d n, V c main_v16_0 (ix2 d n) = T d n)
    {R : Fin 5 → Fin 3200 → EReal} (hR : ∀ b n, V c main_v16_1 (ix3 b 0 n) = R b n)
    {G : Fin 5 → Fin 16 → Fin 384 → EReal} (hG : ∀ b i d, V c main_v16_2 (ix3 b i d) = G b i d)
    {rc : EReal} (hc : V c main_arg4 (ix1 0) = rc) {rd : EReal} (hd : V c main_arg5 (ix1 0) = rd)
    (w b : Fin 5) (hw : t.val / 5 = w) (hb : t.val % 5 = b)
    (v : Fin 3200 → Fin 980 → EReal) (hv : ∀ n k, 0 ≤ v n k)
    (hx : ∀ (n : Fin 3200) (k : Fin 984), ∑ d : Fin 384, S w k d * T d ⟨3200 * b + n, by omega⟩ = if h : k.val < 980 then v n ⟨k, h⟩ else 0)
    (a : Fin 3200 → Nat → EReal) (ha : ∀ n, ∀ j < 5, Top5.IsKth (v n) j (a n j)) :
    block V c t (ix3 z i l) = rc * (∑ d, G b i d * Model.unit (∑ e, G b i e * G b i e) * P w d) +
      rd * ((1 / 5 : ℝ) : EReal) * ∑ n : Fin 3200, ((if n.val / 196 = i.val then 1 else 0 : ℝ) : EReal) *
        ((∑ j ∈ Finset.range 5, a n j) * R b n) := by
  have i0 : win2_0.index t = ![t.val / 5, 0, 0] := (by decide +kernel : ∀ t : Fin grid2.N, win2_0.index t = ![t.val / 5, 0, 0]) t
  have i1 : win2_1.index t = ![0, t.val % 5] := (by decide +kernel : ∀ t : Fin grid2.N, win2_1.index t = ![0, t.val % 5]) t
  have i2 : win2_2.index t = ![t.val % 5, 0, 0] := (by decide +kernel : ∀ t : Fin grid2.N, win2_2.index t = ![t.val % 5, 0, 0]) t
  have i3 : win2_3.index t = ![t.val % 5, 0, 0] := (by decide +kernel : ∀ t : Fin grid2.N, win2_3.index t = ![t.val % 5, 0, 0]) t
  have i4 : win2_4.index t = ![t.val / 5, 0, 0] := (by decide +kernel : ∀ t : Fin grid2.N, win2_4.index t = ![t.val / 5, 0, 0]) t
  have i5 : win2_5.index t = ![0] := (by decide +kernel : ∀ t : Fin grid2.N, win2_5.index t = ![0]) t
  have i6 : win2_6.index t = ![0] := (by decide +kernel : ∀ t : Fin grid2.N, win2_6.index t = ![0]) t
  have b0 (k : Fin 984) (d : Fin 384) : iblk2 V c 0 t (ix3 0 k d) = S w k d := by
    have e : (win2_0.blk t).view.emb (ix3 0 k d) = ix3 w k d := by blk_ext [i0]
    blk_simp [iblk2]
    rw [e]
    exact hS w k d
  have b1 (d : Fin 384) (n : Fin 3200) : iblk2 V c 1 t (ix2 d n) = T d ⟨3200 * b + n, by omega⟩ := by
    have e : (win2_1.blk t).view.emb (ix2 d n) = ix2 d ⟨3200 * b + n, by omega⟩ := by blk_ext [i1]
    blk_simp [iblk2]
    rw [e]
    exact hT d _
  have b2 (n : Fin 3200) : iblk2 V c 2 t (ix3 0 0 n) = R b n := by
    have e : (win2_2.blk t).view.emb (ix3 0 0 n) = ix3 b 0 n := by blk_ext [i2]
    blk_simp [iblk2]
    rw [e]
    exact hR b n
  have b3 (i : Fin 16) (d : Fin 384) : iblk2 V c 3 t (ix3 0 i d) = G b i d := by
    have e : (win2_3.blk t).view.emb (ix3 0 i d) = ix3 b i d := by blk_ext [i3]
    blk_simp [iblk2]
    rw [e]
    exact hG b i d
  have b4 (d : Fin 384) : iblk2 V c 4 t (ix3 0 0 d) = P w d := by
    have e : (win2_4.blk t).view.emb (ix3 0 0 d) = ix3 w 0 d := by blk_ext [i4]
    blk_simp [iblk2]
    rw [e]
    exact hP w d
  have b5 : iblk2 V c 5 t (ix1 0) = rc := by
    have e : (win2_5.blk t).view.emb (ix1 0) = ix1 0 := by blk_ext [i5]
    blk_simp [iblk2]
    rw [e]
    exact hc
  have b6 : iblk2 V c 6 t (ix1 0) = rd := by
    have e : (win2_6.blk t).view.emb (ix1 0) = ix1 0 := by blk_ext [i6]
    blk_simp [iblk2]
    rw [e]
    exact hd
  unfold block
  rw [b5, b6]
  exact Score.out_eq _ _ _ _ _ rc rd z i l b0 b1 (fun n => (ld_ri _ n).trans (b2 n)) (b3 i) (fun d => (ld_pn _ d).trans (b4 d)) v hv hx a ha

end Cert.Proof.Blocks

end
-- ==== Proof.Support.lean ====
/- The first call's two arrays as values: the normalised support descriptors and the normalised prototypes. -/
module

public import proofs.«01_k».proof.Proof.Gen.KernelIdeal.Frame
public import proofs.«01_k».proof.Proof.Model
public import Idealize.ShloMosaic.Lib.Pipeline.ValueKit
public import Idealize.ShloMosaic.Lib.Pointwise

@[expose] public section

set_option maxRecDepth 16384

noncomputable section

namespace Cert.Proof.Support

open Idealize.ShloMosaic Idealize.ShloMosaic.TcCoe Idealize.ShloMosaic.Tactic Cert.KernelIdeal Cert.KernelIdeal.Gen
open Cert.Proof.Model

section
variable {F : FTy → Type} [FloatOps F] [Named F]

/-- The 980 rows of one way. -/
def rows (f : FVec F S4900x384 .f32) (o : Nat) (h : S4900x384.Slices ![o, 0] S980x384) : FVec F S980x384 .f32 :=
  extractStridedSlice S980x384 ![o, 0] f h

/-- One way's stored descriptors: its rows divided by the channel norms, four rows of zeros below. -/
def snWay (g : FVec F S980x384 .f32) : FVec F S1x984x384 .bf16 :=
  shapeCast S1x984x384 (truncf .bf16 (concatenate S984x384 0
    [⟨S980x384, mulf g (broadcastTo S980x384 (rsqrt (shapeCast S1x384 (multiReduction .add [0] S384 (mulf g g) 0x00000000#32
      reduces_S980x384_S384 (.inl rfl) rfl) shapeCasts_S384_S1x384)) broadcasts_S1x384_S980x384)⟩,
     ⟨S4x384, broadcast S4x384 (Scalar.ofBits .f32 0x00000000#32)⟩] concatenates_S980x384_S4x384_S984x384_d0) bitsLt_bf16_f32)
    shapeCasts_S984x384_S1x984x384

/-- One way's mean row. -/
def protoWay (g : FVec F S980x384 .f32) : FVec F S1x384 .f32 :=
  mulf (shapeCast S1x384 (multiReduction .add [0] S384 g 0x00000000#32 reduces_S980x384_S384 (.inl rfl) rfl) shapeCasts_S384_S1x384)
    (broadcast S1x384 (Named.named κ "inv_shw" 0x3A85BF37#32))

/-- One way's stored prototype: the mean row normalised, in all eight rows. -/
def pnWay (g : FVec F S980x384 .f32) : FVec F S1x8x384 .f32 :=
  shapeCast S1x8x384 (broadcastTo S8x384 (shapeCast S1x384 (mulf (protoWay g) (broadcast S1x384 (Scalar.rsqrt (Scalar.maximumf
    (extractAt ![0, 0, 0] (shapeCast S1x1x1 (multiReduction .add [1, 2] S1
      (shapeCast S1x1x384 (mulf (protoWay g) (protoWay g)) shapeCasts_S1x384_S1x1x384) 0x00000000#32 reduces_S1x1x384_S1 (.inl rfl) rfl)
      shapeCasts_S1_S1x1x1) inpos_S1x1x1_p0_0_0) (Named.named κ "eps_sq" 0x179ABE15#32))))) shapeCasts_S1x384_S1x384)
    broadcasts_S1x384_S8x384) shapeCasts_S8x384_S1x8x384

/-- The features the first call computes from its three operands. -/
def featArr (x0 : Vec F S4900x768 .bf16) (x1 : Vec F S768x384 .bf16) (x2 : Vec F S1x384 .f32) : FVec F S4900x384 .f32 :=
  k0_pay2 (View.ld x0 r0_0) (View.ld x1 r0_1) (View.ld x2 r0_2)

/-- The stored descriptors are five pieces of one form, one for each way. -/
theorem out3_eq (x0 : Vec F S4900x768 .bf16) (x1 : Vec F S768x384 .bf16) (x2 : Vec F S1x384 .f32) :
    out0_3 x0 x1 x2 = View.canon [
      ⟨r0_11, snWay (rows (featArr x0 x1 x2) 3920 slices_S4900x384_o3920_0_S980x384)⟩,
      ⟨r0_9, snWay (rows (featArr x0 x1 x2) 2940 slices_S4900x384_o2940_0_S980x384)⟩,
      ⟨r0_7, snWay (rows (featArr x0 x1 x2) 1960 slices_S4900x384_o1960_0_S980x384)⟩,
      ⟨r0_5, snWay (rows (featArr x0 x1 x2) 980 slices_S4900x384_o980_0_S980x384)⟩,
      ⟨r0_3, snWay (rows (featArr x0 x1 x2) 0 slices_S4900x384_o0_0_S980x384)⟩] := by
  sl_kernel_rfl

/-- The stored prototypes are five pieces of one form, one for each way. -/
theorem out4_eq (x0 : Vec F S4900x768 .bf16) (x1 : Vec F S768x384 .bf16) (x2 : Vec F S1x384 .f32) :
    out0_4 x0 x1 x2 = View.canon [
      ⟨r0_12, pnWay (rows (featArr x0 x1 x2) 3920 slices_S4900x384_o3920_0_S980x384)⟩,
      ⟨r0_10, pnWay (rows (featArr x0 x1 x2) 2940 slices_S4900x384_o2940_0_S980x384)⟩,
      ⟨r0_8, pnWay (rows (featArr x0 x1 x2) 1960 slices_S4900x384_o1960_0_S980x384)⟩,
      ⟨r0_6, pnWay (rows (featArr x0 x1 x2) 980 slices_S4900x384_o980_0_S980x384)⟩,
      ⟨r0_4, pnWay (rows (featArr x0 x1 x2) 0 slices_S4900x384_o0_0_S980x384)⟩] := by
  sl_kernel_rfl

end

/-- One stored descriptor at an index. -/
theorem snWay_apply (g : FVec Ideal S980x384 .f32) (z : Fin 1) (s : Fin 984) (d : Fin 384) :
    snWay g (ix3 z s d) = if h : s.val < 980 then g (ix2 ⟨s, h⟩ d) * Ideal.rsqrt (∑ k : Fin 980, g (ix2 k d) * g (ix2 k d)) else 0 := by
  pointwise [snWay]

/-- One stored prototype at an index. -/
theorem pnWay_apply (g : FVec Ideal S980x384 .f32) (z : Fin 1) (i : Fin 8) (d : Fin 384) :
    pnWay g (ix3 z i d) = (∑ k : Fin 980, g (ix2 k d)) * ((1 / 980 : ℝ) : EReal)
      * unit (∑ e : Fin 384, (∑ k : Fin 980, g (ix2 k e)) * ((1 / 980 : ℝ) : EReal) * ((∑ k : Fin 980, g (ix2 k e)) * ((1 / 980 : ℝ) : EReal))) := by
  pointwise [pnWay, protoWay]
  rw [inv_shw, eps_sq]
  simp only [Finset.univ_unique, Finset.sum_singleton]
  rfl

/-- The support features at an index. -/
theorem featArr_apply (x0 : Vec Ideal S4900x768 .bf16) (x1 : Vec Ideal S768x384 .bf16) (x2 : Vec Ideal S1x384 .f32)
    (r : Fin 4900) (d : Fin 384) :
    featArr x0 x1 x2 (ix2 r d) = max ((∑ k : Fin 768, x0 (ix2 r k) * x1 (ix2 k d)) + x2 (ix2 0 d)) 0 := by
  pointwise [featArr, k0_pay2]

/-- A way's rows of an array of all ways. -/
theorem rows_apply (f : FVec Ideal S4900x384 .f32) (o : Nat) (h : S4900x384.Slices ![o, 0] S980x384) (k : Fin 980) (d : Fin 384)
    (w : Fin 5) (hw : o = 980 * w) : rows f o h (ix2 k d) = f (ix2 (rowS w k) d) := by
  subst hw
  exact congrArg f (funext fun a => by fin_cases a <;> simp [ix2, Fin.ext_iff])

/-- A stored descriptor of the way whose rows start at `o`, at the coordinates of the array it is stored in. -/
theorem sn_piece (f : FVec Ideal S4900x384 .f32) (o : Nat) (h : S4900x384.Slices ![o, 0] S980x384) (x : S1x984x384.Idx)
    (w : Fin 5) (s : Fin 984) (d : Fin 384) (hw : o = 980 * w) (hs : s.val = x 1) (hd : d.val = x 2) :
    snWay (rows f o h) x = if h : s.val < 980 then sn (fun r e => f (ix2 r e)) w ⟨s, h⟩ d else 0 := by
  obtain rfl : x = ix3 0 s d := funext fun a => by
    fin_cases a
    · exact Fin.ext (Nat.lt_one_iff.1 (x 0).isLt)
    · exact Fin.ext hs.symm
    · exact Fin.ext hd.symm
  rw [snWay_apply]
  simp only [rows_apply f o h _ _ w hw]
  rfl

/-- A stored prototype of the way whose rows start at `o`, at the coordinates of the array it is stored in. -/
theorem pn_piece (f : FVec Ideal S4900x384 .f32) (o : Nat) (h : S4900x384.Slices ![o, 0] S980x384) (x : S1x8x384.Idx)
    (w : Fin 5) (d : Fin 384) (hw : o = 980 * w) (hd : d.val = x 2) :
    pnWay (rows f o h) x = pn (fun r e => f (ix2 r e)) w d := by
  obtain ⟨y, rfl⟩ : ∃ y : Fin 8, x = ix3 0 y d := ⟨x 1, funext fun a => by
    fin_cases a
    · exact Fin.ext (Nat.lt_one_iff.1 (x 0).isLt)
    · rfl
    · exact Fin.ext hd.symm⟩
  rw [pnWay_apply]
  simp only [rows_apply f o h _ _ w hw]
  rfl

section
variable (V : (c : Dev nD) → (b : Ref sig .tc) → Buf (Elt Ideal) ((c : Thread nD τ).loc b))

/-- The features of the support images, as the first call's operands give them. -/
def A (c : Dev nD) : Fin 4900 → Fin 384 → EReal :=
  feats (fun r k => V c main_v7 (ix2 r k)) (fun k d => V c main_v13 (ix2 k d)) fun d => V c main_v14 (ix2 0 d)

/-- The features of the call's blocks are those of the whole arrays. -/
theorem featArr_blk (c : Dev nD) (r : Fin 4900) (d : Fin 384) :
    featArr (iblk0 V c 0 t0_0) (iblk0 V c 1 t0_0) (iblk0 V c 2 t0_0) (ix2 r d) = A V c r d := by
  rw [featArr_apply]
  have i0 : win0_0.index t0_0 = ![0, 0] := by decide +kernel
  have i1 : win0_1.index t0_0 = ![0, 0] := by decide +kernel
  have i2 : win0_2.index t0_0 = ![0, 0] := by decide +kernel
  have e0 (i : S4900x768.Idx) : (win0_0.blk t0_0).view.emb i = i := by blk_ext [i0]
  have e1 (i : S768x384.Idx) : (win0_1.blk t0_0).view.emb i = i := by blk_ext [i1]
  have e2 (i : S1x384.Idx) : (win0_2.blk t0_0).view.emb i = i := by blk_ext [i2]
  blk_simp [iblk0]
  simp only [e0, e1, e2]
  rfl

/-- The first call's descriptors: the four pad rows of each way are zero. -/
theorem sn_arr (c : Dev nD) (w : Fin 5) (s : Fin 984) (d : Fin 384) :
    (dat0 V c).arrAt 3 cfg0.N (ix3 w s d) = if h : s.val < 980 then sn (A V c) w ⟨s, h⟩ d else 0 := by
  have key : (dat0 V c).arrAt 3 cfg0.N = fun i : S5x984x384.Idx =>
      if h : (i 1).val < 980 then
        sn (fun r e => featArr (iblk0 V c 0 t0_0) (iblk0 V c 1 t0_0) (iblk0 V c 2 t0_0) (ix2 r e)) (i 0) ⟨i 1, h⟩ (i 2) else 0 := by
    refine (dat0 V c).arrAt_eq_of_after_last 3 t0_0 (by decide +kernel) _ fun j => ?_
    blk_simp
    rw [after0_3, out3_eq]
    canon_tiles x h
    all_goals exact sn_piece _ _ _ x _ _ _ (by simp at h0; simp [h0]) (by simpa using h1) (by simpa using h2)
  rw [key]
  simp only [featArr_blk]
  rfl

/-- The first call's prototypes. -/
theorem pn_arr (c : Dev nD) (w : Fin 5) (i : Fin 8) (d : Fin 384) :
    (dat0 V c).arrAt 4 cfg0.N (ix3 w i d) = pn (A V c) w d := by
  have key : (dat0 V c).arrAt 4 cfg0.N = fun i : S5x8x384.Idx =>
      pn (fun r e => featArr (iblk0 V c 0 t0_0) (iblk0 V c 1 t0_0) (iblk0 V c 2 t0_0) (ix2 r e)) (i 0) (i 2) := by
    refine (dat0 V c).arrAt_eq_of_after_last 4 t0_0 (by decide +kernel) _ fun j => ?_
    blk_simp
    rw [after0_4, out4_eq]
    canon_tiles x h
    all_goals exact pn_piece _ _ _ x _ _ (by simp at h0; simp [h0]) (by simpa using h2)
  rw [key]
  simp only [featArr_blk]
  rfl

end

end Cert.Proof.Support

end
-- ==== Proof.Query.lean ====
/- The second call's three arrays as values: the query descriptors by column, their inverse norms, the query means. -/
module

public import proofs.«01_k».proof.Proof.Gen.KernelIdeal.Frame
public import proofs.«01_k».proof.Proof.Model
public import proofs.«01_k».proof.Proof.Words
public import Idealize.ShloMosaic.Lib.Pipeline.ValueKit
public import Idealize.ShloMosaic.Lib.Pointwise

@[expose] public section

set_option maxRecDepth 16384

noncomputable section

namespace Cert.Proof.Query

open Idealize.ShloMosaic Idealize.ShloMosaic.TcCoe Idealize.ShloMosaic.Tactic Cert.KernelIdeal Cert.KernelIdeal.Gen
open Cert.Proof.Model Cert.Proof.Words

variable (x0 : Vec Ideal S3136x768 .bf16) (x1 : Vec Ideal S768x384 .bf16) (x2 : Vec Ideal S1x384 .f32)

/-- The features of a block at an index. -/
theorem pay2_apply (r : Fin 3136) (d : Fin 384) :
    k1_pay2 x0 x1 x2 (ix2 r d) = feats (fun r k => x0 (ix2 r k)) (fun k d => x1 (ix2 k d)) (fun d => x2 (ix2 0 d)) r d := by
  pointwise [k1_pay2]
  rfl

/-- The stored transposed features, zero in the columns past the block's rows. -/
theorem pay4_apply (d : Fin 384) (n : Fin 3200) :
    k1_pay4 x0 x1 x2 (ix2 d n) = if h : n.val < 3136 then k1_pay2 x0 x1 x2 (ix2 ⟨n, h⟩ d) else 0 := by
  pointwise [k1_pay4, k1_pay3]

/-- The stored inverse norms, zero where the norm is zero and in the columns past the block's rows. -/
theorem pay5_apply (z : Fin 1) (i : Fin 8) (n : Fin 3200) :
    k1_pay5 x0 x1 x2 (ix3 z i n) = if h : n.val < 3136 then
      (if 0 < ∑ d : Fin 384, k1_pay2 x0 x1 x2 (ix2 ⟨n, h⟩ d) * k1_pay2 x0 x1 x2 (ix2 ⟨n, h⟩ d) then
        Ideal.rsqrt (∑ d : Fin 384, k1_pay2 x0 x1 x2 (ix2 ⟨n, h⟩ d) * k1_pay2 x0 x1 x2 (ix2 ⟨n, h⟩ d)) else 0) else 0 := by
  pointwise [k1_pay5, k1_pay3]

/-- The mean over the 196 patches of a query, as a sum over all rows of a block with weights 0 and 1. -/
def wmean (f : Fin 3136 → EReal) (q : Fin 16) : EReal :=
  (∑ r, ((if r.val / 196 = q.val then 1 else 0 : ℝ) : EReal) * f r) * ((1 / 196 : ℝ) : EReal)

/-- Row `r` of block `t`. -/
def rowB (t : Fin 5) (r : Fin 3136) : Fin 15680 := ⟨3136 * t + r, by omega⟩

/-- The stored mean of a query's patches. -/
theorem pay1_apply (f : FVec Ideal S3136x384 .f32) (z : Fin 1) (q : Fin 16) (d : Fin 384) :
    k1_pay1 f (iota .tc S16x3136 32 [1] iota_S16x3136_d1_w32) 196#32 k1_pay6 k1_pay7 (ix3 z q d) =
      wmean (fun r => f (ix2 r d)) q := by
  pointwise [k1_pay1, k1_pay6, k1_pay7]
  rw [Model.inv_hw]
  refine congrArg (· * _) (Finset.sum_congr rfl fun r _ => ?_)
  exact congrArg (· * _) (weight_word ⟨r, by omega⟩ q)

/-- The stored descriptor entry of block `t`, column `n`, channel `d`, the numbers being plain naturals. -/
def colAt (Q : Fin 15680 → Fin 384 → EReal) (t n d : Nat) : EReal :=
  if h : t < 5 ∧ n < 3136 ∧ d < 384 then Q (rowB ⟨t, h.1⟩ ⟨n, h.2.1⟩) ⟨d, h.2.2⟩ else 0

/-- The stored inverse norm of block `t`, column `n`. -/
def rinvAt (Q : Fin 15680 → Fin 384 → EReal) (t n : Nat) : EReal :=
  if h : t < 5 ∧ n < 3136 then rinv (Q (rowB ⟨t, h.1⟩ ⟨n, h.2⟩)) else 0

/-- The stored mean of block `t`, query `q`, channel `d`. -/
def meanAt (Q : Fin 15680 → Fin 384 → EReal) (t q d : Nat) : EReal :=
  if h : t < 5 ∧ q < 16 ∧ d < 384 then wmean (fun r => Q (rowB ⟨t, h.1⟩ r) ⟨d, h.2.2⟩) ⟨q, h.2.1⟩ else 0

section
variable (V : (c : Dev nD) → (b : Ref sig .tc) → Buf (Elt Ideal) ((c : Thread nD τ).loc b))

/-- The features of the query images, pad images and all, as the second call's operands give them. -/
def Q (c : Dev nD) : Fin 15680 → Fin 384 → EReal :=
  feats (fun r k => V c main_v10 (ix2 r k)) (fun k d => V c main_v13 (ix2 k d)) fun d => V c main_v14 (ix2 0 d)

/-- The features of a step's block are rows of the whole feature array. -/
theorem pay2_blk (c : Dev nD) (t : Fin 5) (r : Fin 3136) (d : Fin 384) :
    k1_pay2 (iblk1 V c 0 t) (iblk1 V c 1 t) (iblk1 V c 2 t) (ix2 r d) = Q V c (rowB t r) d := by
  rw [pay2_apply]
  have i0 : win1_0.index t = ![t.val, 0] := (by decide +kernel : ∀ t : Fin grid1.N, win1_0.index t = ![t.val, 0]) t
  have i1 : win1_1.index t = ![0, 0] := (by decide +kernel : ∀ t : Fin grid1.N, win1_1.index t = ![0, 0]) t
  have i2 : win1_2.index t = ![0, 0] := (by decide +kernel : ∀ t : Fin grid1.N, win1_2.index t = ![0, 0]) t
  have e0 (r : Fin 3136) (k : Fin 768) : (win1_0.blk t).view.emb (ix2 r k) = ix2 (rowB t r) k := by blk_ext [i0, rowB]
  have e1 (i : S768x384.Idx) : (win1_1.blk t).view.emb i = i := by blk_ext [i1]
  have e2 (i : S1x384.Idx) : (win1_2.blk t).view.emb i = i := by blk_ext [i2]
  blk_simp [iblk1]
  simp only [e0, e1, e2]
  rfl

/-- A step's stored descriptors, entry by entry. -/
theorem piece3 (c : Dev nD) (t : Fin 5) (y : S384x3200.Idx) :
    k1_pay4 (iblk1 V c 0 t) (iblk1 V c 1 t) (iblk1 V c 2 t) y = colAt (Q V c) t (y 1) (y 0) := by
  obtain ⟨d, n, rfl⟩ : ∃ (d : Fin 384) (n : Fin 3200), y = ix2 d n := ⟨y 0, y 1, funext fun a => by fin_cases a <;> rfl⟩
  rw [pay4_apply]
  unfold colAt
  by_cases h : n.val < 3136
  · rw [dif_pos h, dif_pos ⟨t.isLt, h, d.isLt⟩, pay2_blk]
    rfl
  · rw [dif_neg h, dif_neg fun h' => h h'.2.1]

/-- A step's stored inverse norms, entry by entry. -/
theorem piece4 (c : Dev nD) (t : Fin 5) (y : S1x8x3200.Idx) :
    k1_pay5 (iblk1 V c 0 t) (iblk1 V c 1 t) (iblk1 V c 2 t) y = rinvAt (Q V c) t (y 2) := by
  obtain ⟨z, i, n, rfl⟩ : ∃ (z : Fin 1) (i : Fin 8) (n : Fin 3200), y = ix3 z i n :=
    ⟨y 0, y 1, y 2, funext fun a => by fin_cases a <;> rfl⟩
  rw [pay5_apply]
  unfold rinvAt
  by_cases h : n.val < 3136
  · rw [dif_pos h, dif_pos ⟨t.isLt, h⟩]
    simp only [pay2_blk]
    rfl
  · rw [dif_neg h, dif_neg fun h' => h h'.2]

/-- A step's stored means, entry by entry. -/
theorem piece5 (c : Dev nD) (t : Fin 5) (y : S1x16x384.Idx) :
    k1_pay1 (k1_pay2 (iblk1 V c 0 t) (iblk1 V c 1 t) (iblk1 V c 2 t)) (iota .tc S16x3136 32 [1] iota_S16x3136_d1_w32) 196#32
      k1_pay6 k1_pay7 y = meanAt (Q V c) t (y 1) (y 2) := by
  obtain ⟨z, q, d, rfl⟩ : ∃ (z : Fin 1) (q : Fin 16) (d : Fin 384), y = ix3 z q d :=
    ⟨y 0, y 1, y 2, funext fun a => by fin_cases a <;> rfl⟩
  rw [pay1_apply]
  unfold meanAt
  rw [dif_pos ⟨t.isLt, q.isLt, d.isLt⟩]
  simp only [pay2_blk]
  rfl

/-- The second call's descriptors: column `n` of block `t` is row `n` of the block, the last 64 columns zero. -/
theorem qt_arr (c : Dev nD) : (dat1 V c).arrAt 3 cfg1.N =
    fun i : S384x16000.Idx => colAt (Q V c) ((i 1).val / 3200) ((i 1).val % 3200) (i 0) := by
  have i3 : ∀ t, win1_3.index t = ![0, t.val] := by decide +kernel
  refine (dat1 V c).arrAt_eq_of_covers 3 _ (by decide +kernel) fun t hf y => ?_
  have hy : (y 1).val < 3200 := (y 1).isLt
  blk_simp [i3]
  rw [after1_3]
  frame_out
  refine (piece3 V c t y).trans ?_
  congr 1 <;> simp [i3] <;> omega

/-- The second call's inverse norms. -/
theorem ri_arr (c : Dev nD) : (dat1 V c).arrAt 4 cfg1.N = fun i : S5x8x3200.Idx => rinvAt (Q V c) (i 0) (i 2) := by
  have i4 : ∀ t, win1_4.index t = ![t.val, 0, 0] := by decide +kernel
  refine (dat1 V c).arrAt_eq_of_covers 4 _ (by decide +kernel) fun t hf y => ?_
  have hy : (y 0).val < 1 := (y 0).isLt
  blk_simp [i4]
  rw [after1_4]
  frame_out
  refine (piece4 V c t y).trans ?_
  congr 1 <;> simp [i4] <;> omega

/-- The second call's query means. -/
theorem qm_arr (c : Dev nD) : (dat1 V c).arrAt 5 cfg1.N = fun i : S5x16x384.Idx => meanAt (Q V c) (i 0) (i 1) (i 2) := by
  have i5 : ∀ t, win1_5.index t = ![t.val, 0, 0] := by decide +kernel
  refine (dat1 V c).arrAt_eq_of_covers 5 _ (by decide +kernel) fun t hf y => ?_
  have hy : (y 0).val < 1 := (y 0).isLt
  blk_simp [i5]
  rw [after1_5]
  frame_out
  refine (piece5 V c t y).trans ?_
  congr 1 <;> simp [i5] <;> omega

end

end Cert.Proof.Query

end
-- ==== Proof.HostIn.lean ====
/- What the host lines before the first call leave in the buffers that the calls read: the patches of the support and of the
   query images, the encoder's weights as a matrix and its bias as a row. -/
module

public import proofs.«01_k».proof.Proof.Gen.KernelIdeal.Frame
public import proofs.«01_k».proof.Proof.Model
public import Idealize.ShloMosaic.Lib.Pipeline.ValueKit
public import Idealize.ShloMosaic.Lib.Pointwise
public import Idealize.ShloMosaic.Lib.KernelVsHost
public import Idealize.ShloMosaic.Lib.StableHlo.Run

@[expose] public section

set_option maxRecDepth 16384

noncomputable section

namespace Cert.Proof.HostIn

open Idealize.ShloMosaic Idealize.ShloMosaic.TcCoe Idealize.ShloMosaic.Tactic Cert.KernelIdeal Cert.KernelIdeal.Gen

variable (m : (ℓ : Loc nD τ sig) → Buf (Elt Ideal) ℓ) (ρ : Dev nD → PrngReg)

/-- The first call's patch rows are the support images' patches. -/
theorem v7_eq (c : Dev nD) (r : Fin 4900) (k : Fin 768) :
    V3 m ρ c main_v7 (ix2 r k) = Model.patchS (m ((c : Thread nD τ).loc main_arg0)) r k := by
  show StableHlo.after hostOps0_2 (StableHlo.after hostOps0_1 (StableHlo.after hostOps0 (W0 m ρ c))) _ _ = _
  after_results
  pointwise []
  rfl

/-- The second call's patch rows are the query images' patches. -/
theorem v10_eq (c : Dev nD) (r : Fin 14700) (k : Fin 768) :
    V3 m ρ c main_v10 (ix2 (⟨r, by omega⟩ : Fin 15680) k) = Model.patchQ (m ((c : Thread nD τ).loc main_arg1)) r k := by
  show StableHlo.after hostOps0_2 (StableHlo.after hostOps0_1 (StableHlo.after hostOps0 (W0 m ρ c))) _ _ = _
  after_results
  pointwise []
  refine (pad_apply_of_inside (s := S75x3x224x224) (t := S80x3x224x224) ![0, 0, 0, 0] ![5, 0, 0, 0] ![0, 0, 0, 0]
    (fun i : S75x3x224x224.Idx => (m ((c : Thread nD τ).loc main_arg1) (ix5 0 (i 0) (i 1) (i 2) (i 3)) : EReal)) _
    pads_S75x3x224x224_S80x3x224x224_050_000_000_000 h_S_ _ (ix4 ⟨r / 196, by omega⟩ ⟨k / 256, by omega⟩
    ⟨r / 14 % 14 * 16 + k / 16 % 16, by omega⟩ ⟨r % 14 * 16 + k % 16, by omega⟩) fun a => ?_).trans rfl
  fin_cases a <;> simp [ix4]

/-- The weight array handed to the encoders is the transposed filter bank. -/
theorem v13_eq (c : Dev nD) (k : Fin 768) (d : Fin 384) :
    V3 m ρ c main_v13 (ix2 k d) = Model.weight (m ((c : Thread nD τ).loc main_arg2)) k d := by
  show StableHlo.after hostOps0_2 (StableHlo.after hostOps0_1 (StableHlo.after hostOps0 (W0 m ρ c))) _ _ = _
  after_results
  pointwise []
  rfl

/-- The bias row handed to the encoders is the bias. -/
theorem v14_eq (c : Dev nD) (z : Fin 1) (d : Fin 384) :
    V3 m ρ c main_v14 (ix2 z d) = (m ((c : Thread nD τ).loc main_arg3) (ix1 d) : EReal) := by
  show StableHlo.after hostOps0_2 (StableHlo.after hostOps0_1 (StableHlo.after hostOps0 (W0 m ρ c))) _ _ = _
  after_results
  pointwise []

end Cert.Proof.HostIn

end
-- ==== Proof.Out.lean ====
/- The kernel's result: every entry is the score of a query against a class. -/
module

public import proofs.«01_k».proof.Proof.Blocks
public import proofs.«01_k».proof.Proof.Support
public import proofs.«01_k».proof.Proof.Query
public import proofs.«01_k».proof.Proof.HostIn

@[expose] public section

set_option maxRecDepth 16384

noncomputable section

namespace Cert.Proof.Out

open Idealize.ShloMosaic Idealize.ShloMosaic.TcCoe Idealize.ShloMosaic.Tactic Cert.KernelIdeal Cert.KernelIdeal.Gen
open Cert.Proof

section
variable (V : (c : Dev nD) → (b : Ref sig .tc) → Buf (Elt Ideal) ((c : Thread nD τ).loc b))

/-- The third call's block of grid point `t` at row `i` and lane `l`, the numbers being plain naturals. -/
def blockAt (c : Dev nD) (t i l : Nat) : EReal :=
  if h : t < cfg2.N ∧ i < 16 ∧ l < 128 then Blocks.block V c ⟨t, h.1⟩ (ix3 0 ⟨i, h.2.1⟩ ⟨l, h.2.2⟩) else 0

/-- The third call's array is the overlay of its blocks. -/
theorem out_arr (c : Dev nD) : (dat2 V c).arrAt 7 cfg2.N =
    fun i : S5x80x128.Idx => blockAt V c (5 * (i 0).val + (i 1).val / 16) ((i 1).val % 16) (i 2) := by
  refine (dat2 V c).arrAt_eq_of_covers 7 _ (by decide +kernel) fun t hf y => ?_
  have i7 : win2_7.index t = ![t.val / 5, t.val % 5, 0] :=
    (by decide +kernel : ∀ t : Fin grid2.N, win2_7.index t = ![t.val / 5, t.val % 5, 0]) t
  have ht : t.val < cfg2.N := t.isLt
  have h0 : (y 0).val < 1 := (y 0).isLt
  have h1 : (y 1).val < 16 := (y 1).isLt
  have h2 : (y 2).val < 128 := (y 2).isLt
  blk_simp
  rw [after2_7, Blocks.outsAt2_eq]
  have e : Blocks.block V c t y = blockAt V c t (y 1) (y 2) := by
    unfold blockAt
    rw [dif_pos ⟨ht, h1, h2⟩]
    exact congrArg (Blocks.block V c t) (funext fun a => by
      fin_cases a <;> [exact Fin.ext (Nat.lt_one_iff.1 h0); rfl; rfl])
  refine Eq.trans ?_ (e.trans ?_)
  · rfl
  · congr 1 <;> simp [i7] <;> omega

end

/-- A sum over the columns of a block with weight one on the columns of query `i` is the sum over that query's columns. -/
theorem sum_query {N : Nat} (i : Nat) (hi : 196 * i + 196 ≤ N) (g : Fin N → EReal) :
    ∑ n : Fin N, ((if n.val / 196 = i then 1 else 0 : ℝ) : EReal) * g n = ∑ p : Fin 196, g ⟨196 * i + p, by omega⟩ := by
  have e (n : Fin N) : ((if n.val / 196 = i then 1 else 0 : ℝ) : EReal) * g n = if n.val / 196 = i then g n else 0 := by
    split <;> simp
  simp only [e]
  rw [← Finset.sum_filter]
  refine (Finset.sum_nbij (fun p : Fin 196 => (⟨196 * i + p, by omega⟩ : Fin N)) ?_ ?_ ?_ ?_).symm
  · intro p _
    simp
    omega
  · intro p _ p' _ h
    simpa [Fin.ext_iff] using h
  · intro n hn
    have hn : n.val / 196 = i := by simpa using hn
    exact ⟨⟨n.val % 196, by omega⟩, by simp, Fin.ext (by simp; omega)⟩
  · intro p _
    rfl

variable (m : (ℓ : Loc nD τ sig) → Buf (Elt Ideal) ℓ) (ρ : Dev nD → PrngReg)

/-- The features of the support images. -/
def A (c : Dev nD) (r : Fin 4900) (d : Fin 384) : EReal :=
  Model.feat (Model.patchS (m ((c : Thread nD τ).loc main_arg0)) r) (m ((c : Thread nD τ).loc main_arg2)) (m ((c : Thread nD τ).loc main_arg3)) d

/-- The features of the query images. -/
def Q (c : Dev nD) (r : Fin 14700) (d : Fin 384) : EReal :=
  Model.feat (Model.patchQ (m ((c : Thread nD τ).loc main_arg1)) r) (m ((c : Thread nD τ).loc main_arg2)) (m ((c : Thread nD τ).loc main_arg3)) d

/-- The first call's features are the support features. -/
theorem A_eq (c : Dev nD) : Support.A (V3 m ρ) c = A m c := by
  funext r d
  exact congrArg (max · 0) (congrArg₂ (· + ·) (Finset.sum_congr rfl fun k _ => congrArg₂ (· * ·) (HostIn.v7_eq m ρ c r k) (HostIn.v13_eq m ρ c k d))
    (HostIn.v14_eq m ρ c 0 d))

/-- The second call's features at a true query row are the query features. -/
theorem Q_eq (c : Dev nD) (r : Fin 14700) (d : Fin 384) : Query.Q (V4 m ρ) c ⟨r, by omega⟩ d = Q m c r d := by
  have e10 : V4 m ρ c main_v10 = V3 m ρ c main_v10 := W4_of_ne m ρ c main_v10 (by decide +kernel)
  have e13 : V4 m ρ c main_v13 = V3 m ρ c main_v13 := W4_of m ρ c main_v13 (by decide +kernel)
  have e14 : V4 m ρ c main_v14 = V3 m ρ c main_v14 := W4_of m ρ c main_v14 (by decide +kernel)
  unfold Query.Q
  rw [e10, e13, e14]
  exact congrArg (max · 0) (congrArg₂ (· + ·) (Finset.sum_congr rfl fun k _ => congrArg₂ (· * ·) (HostIn.v10_eq m ρ c r k) (HostIn.v13_eq m ρ c k d))
    (HostIn.v14_eq m ρ c 0 d))

/-- The second call's features are not negative. -/
theorem Q_nonneg (V : (c : Dev nD) → (b : Ref sig .tc) → Buf (Elt Ideal) ((c : Thread nD τ).loc b)) (c : Dev nD) (r : Fin 15680)
    (d : Fin 384) : 0 ≤ Query.Q V c r d := le_max_right _ _

/-- The third call's array at a true query: the score. -/
theorem score_eq (c : Dev nD) (w : Fin 5) (q : Fin 75) (l : Fin 128) :
    blockAt (V5 m ρ) c (5 * w + q / 16) (q % 16) l =
      Model.score (A m c) (Q m c) (m ((c : Thread nD τ).loc main_arg4) (ix1 0)) (m ((c : Thread nD τ).loc main_arg5) (ix1 0)) w q := by
  have hA : ∀ r d, 0 ≤ A m c r d := fun r d => Model.feat_nonneg _ _ _ _
  have e0 : V5 m ρ c main_v15_0 = (dat0 (V3 m ρ) c).arrAt 3 cfg0.N :=
    (W5_of_ne m ρ c main_v15_0 (by decide +kernel)).trans (W4_arr m ρ c 3)
  have e1 : V5 m ρ c main_v15_1 = (dat0 (V3 m ρ) c).arrAt 4 cfg0.N :=
    (W5_of_ne m ρ c main_v15_1 (by decide +kernel)).trans (W4_arr m ρ c 4)
  have e2 : V5 m ρ c main_v16_0 = (dat1 (V4 m ρ) c).arrAt 3 cfg1.N := W5_arr m ρ c 3
  have e3 : V5 m ρ c main_v16_1 = (dat1 (V4 m ρ) c).arrAt 4 cfg1.N := W5_arr m ρ c 4
  have e4 : V5 m ρ c main_v16_2 = (dat1 (V4 m ρ) c).arrAt 5 cfg1.N := W5_arr m ρ c 5
  have e5 : V5 m ρ c main_arg4 = m ((c : Thread nD τ).loc main_arg4) := W5_args m ρ c main_arg4 (by decide)
  have e6 : V5 m ρ c main_arg5 = m ((c : Thread nD τ).loc main_arg5) := W5_args m ρ c main_arg5 (by decide)
  unfold blockAt
  have hN : cfg2.N = 25 := by decide +kernel
  rw [dif_pos ⟨by omega, by omega, l.isLt⟩]
  -- the inner products of column `n`
  let v (n : Fin 3200) : Fin 980 → EReal := Model.inner (A m c) w fun d =>
    Query.colAt (Query.Q (V4 m ρ) c) (q / 16) n d
  have hcol (n : Fin 3200) (d : Fin 384) : 0 ≤ Query.colAt (Query.Q (V4 m ρ) c) (q / 16) n d := by
    unfold Query.colAt
    split
    · exact Q_nonneg _ _ _ _
    · exact le_rfl
  refine (Blocks.block_apply (V5 m ρ) c ⟨5 * w + q / 16, by omega⟩ 0 ⟨q % 16, by omega⟩ l
    (S := fun w s d => if h : s.val < 980 then Model.sn (A m c) w ⟨s, h⟩ d else 0)
    (fun w s d => by rw [e0, Support.sn_arr, A_eq])
    (P := fun w d => Model.pn (A m c) w d) (fun w d => by rw [e1, Support.pn_arr, A_eq])
    (T := fun d n => Query.colAt (Query.Q (V4 m ρ) c) (n / 3200) (n % 3200) d) (fun d n => by rw [e2, Query.qt_arr]; rfl)
    (R := fun b n => Query.rinvAt (Query.Q (V4 m ρ) c) b n) (fun b n => by rw [e3, Query.ri_arr]; rfl)
    (G := fun b i d => Query.meanAt (Query.Q (V4 m ρ) c) b i d) (fun b i d => by rw [e4, Query.qm_arr]; rfl)
    (congrFun e5 _) (congrFun e6 _) w ⟨q / 16, by omega⟩ (by simp; omega) (by simp; omega) v
    (fun n k => Model.inner_nonneg hA w (hcol n) k) (fun n k => ?_) (fun n => Model.kth (v n)) (fun n j hj => Model.kth_spec _ j hj)).trans ?_
  · simp only [show (3200 * (q.val / 16) + n.val) / 3200 = q / 16 by omega, show (3200 * (q.val / 16) + n.val) % 3200 = n by omega]
    split
    · rfl
    · exact Finset.sum_eq_zero fun d _ => zero_mul _
  · have hrow (p : Fin 196) : Query.rowB ⟨q / 16, by omega⟩ ⟨196 * (q % 16) + p, by omega⟩ = ⟨(Model.rowQ q p).val, by omega⟩ :=
      Fin.ext (by simp [Query.rowB, Model.rowQ]; omega)
    have hq (p : Fin 196) : (fun d : Fin 384 => Query.colAt (Query.Q (V4 m ρ) c) (q / 16) (196 * (q % 16) + p) d) = Q m c (Model.rowQ q p) := by
      funext d
      rw [Query.colAt, dif_pos ⟨by omega, by omega, d.isLt⟩, hrow, Q_eq]
    have hr (p : Fin 196) : Query.rinvAt (Query.Q (V4 m ρ) c) (q / 16) (196 * (q % 16) + p) = Model.rinv (Q m c (Model.rowQ q p)) := by
      rw [Query.rinvAt, dif_pos ⟨by omega, by omega⟩, hrow]
      exact congrArg Model.rinv (funext fun d => Q_eq m ρ c _ d)
    have hg (d : Fin 384) : Query.meanAt (Query.Q (V4 m ρ) c) (q / 16) (q % 16) d = Model.qmean (Q m c) q d := by
      rw [Query.meanAt, dif_pos ⟨by omega, by omega, d.isLt⟩, Query.wmean, sum_query _ (by simp only; omega), Model.qmean]
      exact congrArg (· * _) (Finset.sum_congr rfl fun p _ => by rw [hrow, Q_eq])
    simp only [hg]
    rw [sum_query _ (by omega), Model.score]
    simp only [v, hq, hr]

/-- The program's result at query `q` and class `w`. -/
theorem main_v21_eq (c : Dev nD) (z : Fin 1) (q : Fin 75) (w : Fin 5) : W7 m ρ c main_v21 (ix3 z q w) =
    Model.score (A m c) (Q m c) (m ((c : Thread nD τ).loc main_arg4) (ix1 0)) (m ((c : Thread nD τ).loc main_arg5) (ix1 0)) w q := by
  have e : W6 m ρ c main_v17 (ix3 w (⟨q, by omega⟩ : Fin 80) (0 : Fin 128)) = blockAt (V5 m ρ) c (5 * w + q / 16) (q % 16) 0 :=
    congrFun ((W6_arr m ρ c 7).trans (out_arr (V5 m ρ) c)) _
  refine Eq.trans ?_ (e.trans (score_eq m ρ c w q 0))
  show StableHlo.after hostOps3 _ _ _ = _
  after_results
  pointwise []

end Cert.Proof.Out

end
-- ==== Proof.Run.lean ====
/- The kernel's run with its result array named. -/
module

public import proofs.«01_k».proof.Proof.Gen.KernelIdeal.Frame

@[expose] public section

set_option maxRecDepth 16384

noncomputable section

namespace Cert.Proof.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable (m : (ℓ : Loc nD τ sig) → Buf (Elt Ideal) ℓ) (ρ : Dev nD → PrngReg)

/-- The program ends with its result array as the last host lines leave it and its arguments unchanged. -/
theorem run : θ_run defs (onTc (τ := τ) (main (F := Ideal))) ⟨m, fun _ => 0, ρ⟩ (fun r => ∀ c : Dev nD,
      r.2.mem ((c.tc : Thread nD τ).loc main_v21) = W7 m ρ c main_v21
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ c =>
      ⟨h c _ (mem_uc main_v21 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.Proof.Run

end
-- ==== Proof.RefFeat.lean ====
/- The reference's features: the encoder at one patch, as the model writes it. -/
module

public import proofs.«01_k».proof.Proof.Model
public import proofs.«01_k».proof.Proof.Gen.ReferenceIdeal.Read
public import Idealize.ShloMosaic.Lib.Pointwise

@[expose] public section

set_option maxRecDepth 16384

noncomputable section

namespace Cert.Proof.RefFeat

open Idealize.ShloMosaic Idealize.ShloMosaic.TcCoe Idealize.ShloMosaic.Tactic Cert.ReferenceIdeal Cert.ReferenceIdeal.Gen Cert.ReferenceIdeal.Read

/-- The encoder's dimension numbers. -/
abbrev enc := dot_S384x3x16x16_S100x3x14x16x14x16_S384x100x14x14_123_135_0_024_n_n

/-- The contraction index of the encoder's `k`-th tap: channel, row, column. -/
def tap (k : Fin 768) : enc.contr.Idx := fun a => match a with
  | ⟨0, _⟩ => (⟨k / 256, by omega⟩ : Fin 3)
  | ⟨1, _⟩ => (⟨k / 16 % 16, by omega⟩ : Fin 16)
  | ⟨2, _⟩ => (⟨k % 16, by omega⟩ : Fin 16)

/-- A tap's three coordinates are the digits of its number. -/
theorem num {a b c : Nat} (_ : a < 3) (_ : b < 16) (_ : c < 16) :
    (256 * a + 16 * b + c) / 256 = a ∧ (256 * a + 16 * b + c) / 16 % 16 = b ∧ (256 * a + 16 * b + c) % 16 = c := by omega

/-- Every tap of the filter window is met once. -/
theorem tap_bijective : Function.Bijective tap := by
  constructor
  · intro k k' h
    have h0 : k.val / 256 = k'.val / 256 := congrArg Fin.val (congrFun h ⟨0, by decide⟩)
    have h1 : k.val / 16 % 16 = k'.val / 16 % 16 := congrArg Fin.val (congrFun h ⟨1, by decide⟩)
    have h2 : k.val % 16 = k'.val % 16 := congrArg Fin.val (congrFun h ⟨2, by decide⟩)
    exact Fin.ext (by omega)
  · intro i
    have h0 : (i ⟨0, by decide⟩).val < 3 := (i ⟨0, by decide⟩).isLt
    have h1 : (i ⟨1, by decide⟩).val < 16 := (i ⟨1, by decide⟩).isLt
    have h2 : (i ⟨2, by decide⟩).val < 16 := (i ⟨2, by decide⟩).isLt
    refine ⟨⟨256 * (i ⟨0, by decide⟩).val + 16 * (i ⟨1, by decide⟩).val + (i ⟨2, by decide⟩).val, by omega⟩, funext fun a => ?_⟩
    match a with
    | ⟨0, _⟩ => exact Fin.ext (num h0 h1 h2).1
    | ⟨1, _⟩ => exact Fin.ext (num h0 h1 h2).2.1
    | ⟨2, _⟩ => exact Fin.ext (num h0 h1 h2).2.2

/-- The encoder's product at one filter and one patch is the sum over the 768 taps. -/
theorem enc_apply (W : FVec Ideal S384x3x16x16 .f32) (P : FVec Ideal S100x3x14x16x14x16 .f32) (d : Fin 384) (n : Fin 100) (y x : Fin 14) :
    Host.dotGeneral (φ₁ := .f32) (φ₂ := .f32) enc none W P (ix4 d n y x) = ∑ k : Fin 768, W (ix4 d ⟨k / 256, by omega⟩ ⟨k / 16 % 16, by omega⟩ ⟨k % 16, by omega⟩) *
      P (ix6 n ⟨k / 256, by omega⟩ y ⟨k / 16 % 16, by omega⟩ x ⟨k % 16, by omega⟩) := by
  simp only [Host.dotGeneral]
  rw [Ideal.dotGeneral_apply, ← tap_bijective.sum_comp]
  refine Finset.sum_congr rfl fun k _ => ?_
  have el : enc.lhsIdx (ix4 d n y x) (tap k) = ix4 d ⟨k / 256, by omega⟩ ⟨k / 16 % 16, by omega⟩ ⟨k % 16, by omega⟩ :=
    funext fun a => by fin_cases a <;> rfl
  have er : enc.rhsIdx (ix4 d n y x) (tap k) = ix6 n ⟨k / 256, by omega⟩ y ⟨k / 16 % 16, by omega⟩ x ⟨k % 16, by omega⟩ :=
    funext fun a => by fin_cases a <;> rfl
  rw [el, er]

variable (x0 : S1x5x5x3x224x224.Idx → EReal) (x1 : S1x75x3x224x224.Idx → EReal) (x2 : S384x3x16x16.Idx → EReal) (x3 : S384.Idx → EReal)

/-- The images cut into windows, at a support image. -/
theorem win_support (n : Fin 25) (c : Fin 3) (y : Fin 14) (i : Fin 16) (x : Fin 14) (j : Fin 16) :
    val_main_v3 (F := Ideal) x0 x1 (ix6 ⟨n, by omega⟩ c y i x j) =
      x0 (ix6 0 ⟨n / 5, by omega⟩ ⟨n % 5, by omega⟩ c ⟨y * 16 + i, by omega⟩ ⟨x * 16 + j, by omega⟩) := by
  unfold val_main_v3 val_main_v2 val_main_v0 val_main_v1
  pointwise []

/-- The images cut into windows, at a query image. -/
theorem win_query (n : Fin 75) (c : Fin 3) (y : Fin 14) (i : Fin 16) (x : Fin 14) (j : Fin 16) :
    val_main_v3 (F := Ideal) x0 x1 (ix6 ⟨25 + n, by omega⟩ c y i x j) =
      x1 (ix5 0 n c ⟨y * 16 + i, by omega⟩ ⟨x * 16 + j, by omega⟩) := by
  unfold val_main_v3 val_main_v2 val_main_v0 val_main_v1
  pointwise []

/-- The encoder's output at one image, filter and patch. -/
theorem out_apply (n : Fin 100) (d : Fin 384) (y x : Fin 14) : val_main_v10 (F := Ideal) x0 x1 x2 x3 (ix4 n d y x) =
    max ((∑ k : Fin 768, Model.weight x2 k d *
      val_main_v3 (F := Ideal) x0 x1 (ix6 n ⟨k / 256, by omega⟩ y ⟨k / 16 % 16, by omega⟩ x ⟨k % 16, by omega⟩)) + x3 (ix1 d)) 0 := by
  have h4 : val_main_v5 (F := Ideal) x0 x1 x2 (ix4 n d y x) = val_main_v4 (F := Ideal) x0 x1 x2 (ix4 d n y x) := by
    unfold val_main_v5
    pointwise []
  have h7 : val_main_v7 (F := Ideal) x3 (ix4 n d y x) = x3 (ix1 d) := by
    unfold val_main_v7 val_main_v6
    pointwise []
  have h9 : val_main_v9 (F := Ideal) (ix4 n d y x) = 0 := Ideal.ofBits_zero_f32
  rw [val_main_v10_apply, val_main_v8_apply, h4, h7, h9]
  exact congrArg (fun s : EReal => max (s + _) 0) (enc_apply x2 (val_main_v3 (F := Ideal) x0 x1) d n y x)

/-- The support features. -/
def A (r : Fin 4900) (d : Fin 384) : EReal := Model.feat (Model.patchS x0 r) x2 x3 d

/-- The query features. -/
def Q (r : Fin 14700) (d : Fin 384) : EReal := Model.feat (Model.patchQ x1 r) x2 x3 d

/-- The support features as the reference keeps them: way, shot, channel, patch. -/
theorem support_apply (z : Fin 1) (w s : Fin 5) (d : Fin 384) (p : Fin 196) : val_main_v12 (F := Ideal) x0 x1 x2 x3 (ix5 z w s d p) =
    A x0 x2 x3 ⟨980 * w + 196 * s + p, by omega⟩ d := by
  obtain rfl : z = 0 := Subsingleton.elim _ _
  have e : val_main_v12 (F := Ideal) x0 x1 x2 x3 (ix5 0 w s d p) =
      val_main_v10 (F := Ideal) x0 x1 x2 x3 (ix4 ⟨w * 5 + s, by omega⟩ d ⟨p / 14, by omega⟩ ⟨p % 14, by omega⟩) := by
    unfold val_main_v12 val_main_v11
    pointwise []
  rw [e, out_apply, A, Model.feat]
  refine congrArg (fun s : EReal => max (s + _) 0) (Finset.sum_congr rfl fun k _ => ?_)
  rw [mul_comm]
  refine congrArg (· * _) ((win_support x0 x1 ⟨w * 5 + s, by omega⟩ _ _ _ _ _).trans ?_)
  unfold Model.patchS
  congr 2 <;> exact Fin.ext (by simp only []; omega)

/-- The query features as the reference keeps them: query, channel, patch. -/
theorem query_apply (z : Fin 1) (q : Fin 75) (d : Fin 384) (p : Fin 196) : val_main_v14 (F := Ideal) x0 x1 x2 x3 (ix4 z q d p) =
    Q x1 x2 x3 (Model.rowQ q p) d := by
  obtain rfl : z = 0 := Subsingleton.elim _ _
  have e : val_main_v14 (F := Ideal) x0 x1 x2 x3 (ix4 0 q d p) =
      val_main_v10 (F := Ideal) x0 x1 x2 x3 (ix4 ⟨25 + q, by omega⟩ d ⟨p / 14, by omega⟩ ⟨p % 14, by omega⟩) := by
    unfold val_main_v14 val_main_v13
    pointwise []
  rw [e, out_apply, Q, Model.feat]
  refine congrArg (fun s : EReal => max (s + _) 0) (Finset.sum_congr rfl fun k _ => ?_)
  rw [mul_comm]
  refine congrArg (· * _) ((win_query x0 x1 q _ _ _ _ _).trans ?_)
  unfold Model.patchQ
  congr 2 <;> exact Fin.ext (by simp only []; omega)

/-- The support features with a way's 980 descriptors in one row each. -/
theorem base_mix_apply (z : Fin 1) (w : Fin 5) (s : Fin 980) (d : Fin 384) : val_main_v42 (F := Ideal) x0 x1 x2 x3 (ix4 z w s d) =
    A x0 x2 x3 (Model.rowS w s) d := by
  obtain rfl : z = 0 := Subsingleton.elim _ _
  have e : val_main_v42 (F := Ideal) x0 x1 x2 x3 (ix4 0 w s d) =
      val_main_v12 (F := Ideal) x0 x1 x2 x3 (ix5 0 w ⟨s / 196, by omega⟩ d ⟨s % 196, by omega⟩) := by
    unfold val_main_v42 val_main_v41
    pointwise []
  rw [e, support_apply]
  exact congrArg (A x0 x2 x3 · d) (Fin.ext (by simp only; omega))

/-- The query features with a query's 196 descriptors in one row each. -/
theorem query_mix_apply (z : Fin 1) (q : Fin 75) (p : Fin 196) (d : Fin 384) : val_main_v43 (F := Ideal) x0 x1 x2 x3 (ix4 z q p d) =
    Q x1 x2 x3 (Model.rowQ q p) d := by
  obtain rfl : z = 0 := Subsingleton.elim _ _
  rw [← query_apply x0 x1 x2 x3 0]
  unfold val_main_v43
  pointwise []

end Cert.Proof.RefFeat

end
-- ==== Proof.RefTop.lean ====
/- The reference's top five of every descriptor's 980 inner products. -/
module

public import proofs.«01_k».proof.Proof.Top5
public import proofs.«01_k».proof.Proof.Gen.ReferenceIdeal.Read
public import Idealize.ShloMosaic.Lib.SortFacts
public import Idealize.ShloMosaic.Lib.Pointwise

@[expose] public section

noncomputable section

namespace Cert.Proof.RefTop

open Idealize.ShloMosaic Idealize.ShloMosaic.TcCoe Idealize.ShloMosaic.Tactic Cert.ReferenceIdeal Cert.ReferenceIdeal.Gen

/-- The greater of two extended reals comes first. -/
theorem gt_eq_one (a b : EReal) : (FloatOps.cmpfTotal (F := Ideal) (φ := .f32) .gt a b == 1#1) = decide (b < a) := by
  show (BitVec.ofBool (decide (b < a)) == 1#1) = decide (b < a)
  by_cases h : b < a <;> simp [h]

/-- The order in which the greatest come first. -/
theorem sorted_antitone {n : Nat} (f : Fin n → EReal) : Antitone fun k => f (sortedFrom (fun k k' => decide (f k' < f k)) k) := by
  intro i j hij
  rcases hij.eq_or_lt with rfl | hij
  · exact le_rfl
  have h := sortedFrom_noInversion (fun k k' => decide (f k' < f k)) (fun k k' => decide (f k' < f k))
    (fun a b h => by simpa using le_of_lt (by simpa using h)) (fun a b h => h)
    (fun a b c hab hbc => by simp at *; exact hab.trans hbc) i j hij
  simpa using h

/-- The `j`-th of the five values kept of a row is its `j`-th largest. -/
theorem topK_apply (x : S1x75x5x196x980.Idx → EReal) (z : Fin 1) (q : Fin 75) (w : Fin 5) (p : Fin 196) (j : Fin 5) :
    Top5.IsKth (fun s : Fin 980 => x (ix5 z q w p s)) j
      ((Host.topK S1x75x5x196x5 4 (FloatOps.cmpfTotal (F := Ideal) (φ := .f32) .gt) x sliceFits_S1x75x5x196x980_S1x75x5x196x5).1 (ix5 z q w p j)) := by
  let f (s : Fin 980) : EReal := x (ix5 z q w p s)
  have h := Top5.isKth_of_antitone f (sortedFrom fun k k' => decide (f k' < f k))
    ⟨sortedFrom_injective _, sortedFrom_surjective _⟩ (sorted_antitone f) ⟨j, by omega⟩
  let J : S1x75x5x196x980.Idx := ix5 z q w p ⟨j, by omega⟩
  have along (k : Fin 980) : J.along 4 k = ix5 z q w p k := funext fun a => by fin_cases a <;> rfl
  refine cast (congrArg (Top5.IsKth f j) (Eq.symm ?_)) h
  unfold Host.topK
  dsimp only
  rw [Host.sort2_eq_sortBy]
  dsimp only
  refine (extractStridedSlice_apply (fun _ => 0) _ sliceFits_S1x75x5x196x980_S1x75x5x196x5 (ix5 z q w p j) J fun a => ?_).trans ?_
  · fin_cases a <;> exact (Nat.zero_add _).symm
  unfold Host.sortBy
  simp only [gt_eq_one]
  rw [dif_pos (by decide)]
  show x (J.along 4 (sortedFrom (fun k k' => decide (x (J.along 4 k') < x (J.along 4 k))) (J 4))) = _
  have hf (k : Fin 980) : x (J.along 4 k) = f k := congrArg x (along k)
  refine (hf _).trans (congrArg f (congrFun (congrArg sortedFrom (funext fun k => funext fun k' => ?_)) _))
  show decide (x (J.along 4 k') < x (J.along 4 k)) = decide (f k' < f k)
  rw [hf k, hf k']

/-- The sum of the values kept, over the descriptors of a query and over the five places. -/
theorem sum_apply (x : S1x75x5x196x5.Idx → EReal) (init : EReal) (q : Fin 75) (w : Fin 5) :
    Ideal.hostReduceAdd reducesTo_S1x75x5x196x5_S1x75x5_d3_4 x init (ix3 0 q w) = init + ∑ p : Fin 196, ∑ j : Fin 5, x (ix5 0 q w p j) := by
  unfold Ideal.hostReduceAdd
  rw [← Fintype.sum_prod_type' fun p j => x (ix5 0 q w p j)]
  refine congrArg (init + ·) (Finset.sum_nbij (fun pj : Fin 196 × Fin 5 => (ix5 0 q w pj.1 pj.2 : S1x75x5x196x5.Idx)) ?_ ?_ ?_ ?_).symm
  · intro pj _
    refine Finset.mem_filter.2 ⟨Finset.mem_univ _, funext fun a => ?_⟩
    fin_cases a <;> rfl
  · intro a _ b _ h
    exact Prod.ext (congrFun h 3) (congrFun h 4)
  · intro i hi
    have h := (Finset.mem_filter.1 (Finset.mem_coe.1 hi)).2
    refine ⟨(i 3, i 4), Finset.mem_coe.2 (Finset.mem_univ _), funext fun a => ?_⟩
    have h0 : i 0 = (0 : Fin 1) := congrFun h 0
    have h1 : i 1 = q := congrFun h 1
    have h2 : i 2 = w := congrFun h 2
    fin_cases a
    · exact h0.symm
    · exact h1.symm
    · exact h2.symm
    · rfl
    · rfl
  · intro pj _
    rfl

end Cert.Proof.RefTop

end
-- ==== Proof.Arith.lean ====
/- Laws of the extended reals by which the reference's quotients are the kernel's products. -/
module

public import proofs.«01_k».proof.Proof.Model

@[expose] public section

noncomputable section

namespace Cert.Proof.Arith

open Idealize.ShloMosaic

/-- A quotient by a positive real is the product with its inverse. -/
theorem div_pos {r : ℝ} (hr : 0 < r) (x : EReal) : Ideal.div x (r : EReal) = x * ((1 / r : ℝ) : EReal) := by
  rw [Ideal.div, if_neg (by exact_mod_cast hr.ne'), one_div, EReal.coe_inv]

/-- A quotient by the root of a positive value is the product with the inverse root. -/
theorem div_sqrt {s : EReal} (hs : 0 < s) (x : EReal) : Ideal.div x (Ideal.sqrt s) = x * Ideal.rsqrt s := by
  induction s with
  | bot => exact absurd hs (by simp)
  | top =>
    show Ideal.div x ⊤ = x * 0
    simp [Ideal.div]
  | coe r =>
    have hr : 0 < r := EReal.coe_pos.1 hs
    have h0 : 0 < Real.sqrt r := Real.sqrt_pos.2 hr
    have e1 : Ideal.sqrt (r : EReal) = (Real.sqrt r : EReal) := by
      show (if r < 0 then ⊥ else (Real.sqrt r : EReal)) = _
      rw [if_neg (not_lt.2 hr.le)]
    have e2 : Ideal.rsqrt (r : EReal) = ((Real.sqrt r)⁻¹ : ℝ) := by
      show (if r < 0 then ⊥ else if r = 0 then ⊤ else ((Real.sqrt r)⁻¹ : ℝ) : EReal) = _
      rw [if_neg (not_lt.2 hr.le), if_neg hr.ne']
    rw [e1, e2, div_pos h0, one_div]

/-- The root grows with a value that is not negative. -/
theorem sqrt_mono {s t : EReal} (hs : 0 ≤ s) (h : s ≤ t) : Ideal.sqrt s ≤ Ideal.sqrt t := by
  induction s with
  | bot => exact absurd hs (by simp)
  | top => rw [top_le_iff.1 h]
  | coe r =>
    induction t with
    | bot => exact absurd (hs.trans h) (by simp)
    | top => exact le_top
    | coe u =>
      have hr : 0 ≤ r := EReal.coe_nonneg.1 hs
      have hu : r ≤ u := EReal.coe_le_coe_iff.1 h
      show (if r < 0 then ⊥ else (Real.sqrt r : EReal)) ≤ (if u < 0 then ⊥ else (Real.sqrt u : EReal))
      rw [if_neg (not_lt.2 hr), if_neg (not_lt.2 (hr.trans hu))]
      exact EReal.coe_le_coe_iff.2 (Real.sqrt_le_sqrt hu)

/-- The norm floored at a value is the root of the squared norm floored at the value's square. -/
theorem max_sqrt {s : EReal} (hs : 0 ≤ s) : max (Ideal.sqrt s) (Model.eps : EReal) = Ideal.sqrt (max s ((Model.eps * Model.eps : ℝ) : EReal)) := by
  have hp : 0 ≤ Model.eps * Model.eps := mul_self_nonneg _
  have e : Ideal.sqrt ((Model.eps * Model.eps : ℝ) : EReal) = (Model.eps : EReal) := by
    show (if Model.eps * Model.eps < 0 then ⊥ else (Real.sqrt (Model.eps * Model.eps) : EReal)) = _
    rw [if_neg (not_lt.2 hp), Real.sqrt_mul_self Model.eps_pos.le]
  rw [← e]
  rcases le_total s ((Model.eps * Model.eps : ℝ) : EReal) with h | h
  · rw [max_eq_right h, max_eq_right (sqrt_mono hs h)]
  · rw [max_eq_left h, max_eq_left (sqrt_mono (EReal.coe_nonneg.2 hp) h)]

/-- A vector's entry over its floored norm. -/
theorem div_norm {s : EReal} (hs : 0 ≤ s) (x : EReal) : Ideal.div x (max (Ideal.sqrt s) (Model.eps : EReal)) = x * Model.unit s := by
  rw [max_sqrt hs, div_sqrt (lt_of_lt_of_le (EReal.coe_pos.2 (mul_pos Model.eps_pos Model.eps_pos)) (le_max_right _ _)), Model.unit]

/-- A factor moves out of a sum of values that are not negative. -/
theorem sum_mul {ι : Type} (s : Finset ι) (f : ι → EReal) (hf : ∀ i, 0 ≤ f i) (c : EReal) : (∑ i ∈ s, f i * c) = (∑ i ∈ s, f i) * c := by
  classical
  induction s using Finset.induction_on with
  | empty => simp
  | insert i s hi ih =>
    rw [Finset.sum_insert hi, Finset.sum_insert hi, ih, EReal.right_distrib_of_nonneg (hf i) (Finset.sum_nonneg fun _ _ => hf _)]

end Cert.Proof.Arith

end
-- ==== Proof.RefRead.lean ====
/- The reference's stages at an index, in the model's words. -/
module

public import proofs.«01_k».proof.Proof.RefFeat
public import proofs.«01_k».proof.Proof.RefTop
public import proofs.«01_k».proof.Proof.Arith

@[expose] public section

set_option maxRecDepth 16384

noncomputable section

namespace Cert.Proof.RefRead

open Idealize.ShloMosaic Idealize.ShloMosaic.TcCoe Idealize.ShloMosaic.Tactic Cert.ReferenceIdeal Cert.ReferenceIdeal.Gen Cert.ReferenceIdeal.Read

open RefFeat (A Q)

/-- The float 196. -/
theorem c196 : Ideal.ofBits .f32 0x43440000#32 = ((196 : ℝ) : EReal) := by
  simp [Ideal.ofBits, Ideal.ieee, -EReal.coe_mul]; norm_num

/-- The float 5. -/
theorem c5 : Ideal.ofBits .f32 0x40A00000#32 = ((5 : ℝ) : EReal) := by
  simp [Ideal.ofBits, Ideal.ieee, -EReal.coe_mul]; norm_num

/-- The reference's floor of a norm. -/
theorem ceps : Ideal.ofBits .f32 0x2B8CBCCC#32 = (Model.eps : EReal) := by
  simp [Ideal.ofBits, Ideal.ieee, -EReal.coe_mul, Model.eps]; norm_num

variable (x0 : S1x5x5x3x224x224.Idx → EReal) (x1 : S1x75x3x224x224.Idx → EReal) (x2 : S384x3x16x16.Idx → EReal) (x3 : S384.Idx → EReal)

/-- A support feature is not negative. -/
theorem A_nonneg (r : Fin 4900) (d : Fin 384) : 0 ≤ A x0 x2 x3 r d := Model.feat_nonneg _ _ _ _

/-- A query feature is not negative. -/
theorem Q_nonneg (r : Fin 14700) (d : Fin 384) : 0 ≤ Q x1 x2 x3 r d := Model.feat_nonneg _ _ _ _

/-- A square is not negative. -/
theorem mul_self_nonneg' (x : EReal) : 0 ≤ x * x := by
  rcases le_total 0 x with h | h
  · exact mul_nonneg h h
  · rw [← neg_mul_neg]
    exact mul_nonneg (EReal.neg_nonneg.2 h) (EReal.neg_nonneg.2 h)

/-- A query's mean descriptor. -/
theorem qmean_apply (z : Fin 1) (q : Fin 75) (d : Fin 384) : val_main_v23 (F := Ideal) x0 x1 x2 x3 (ix3 z q d) = Model.qmean (Q x1 x2 x3) q d := by
  obtain rfl : z = 0 := Subsingleton.elim _ _
  have e : val_main_v23 (F := Ideal) x0 x1 x2 x3 (ix3 0 q d) =
      Ideal.div (∑ p : Fin 196, val_main_v14 (F := Ideal) x0 x1 x2 x3 (ix4 0 q d p)) (Ideal.ofBits .f32 0x43440000#32) := by
    unfold val_main_v23 val_main_v21 val_main_v22 val_main_cst_4 val_main_cst_5
    pointwise []
  rw [e, c196, Arith.div_pos (by norm_num), Model.qmean]
  exact congrArg (· * _) (Finset.sum_congr rfl fun p _ => RefFeat.query_apply x0 x1 x2 x3 0 q d p)

/-- A way's prototype. -/
theorem proto_apply (z : Fin 1) (w : Fin 5) (d : Fin 384) : val_main_v20 (F := Ideal) x0 x1 x2 x3 (ix3 z w d) = Model.proto (A x0 x2 x3) w d := by
  obtain rfl : z = 0 := Subsingleton.elim _ _
  have e : val_main_v20 (F := Ideal) x0 x1 x2 x3 (ix3 0 w d) =
      Ideal.div (∑ s : Fin 5, Ideal.div (∑ p : Fin 196, val_main_v12 (F := Ideal) x0 x1 x2 x3 (ix5 0 w s d p)) (Ideal.ofBits .f32 0x43440000#32))
        (Ideal.ofBits .f32 0x40A00000#32) := by
    unfold val_main_v20 val_main_v18 val_main_v19 val_main_v17 val_main_v15 val_main_v16 val_main_cst_0 val_main_cst_1 val_main_cst_2 val_main_cst_3
    pointwise []
  rw [e, c196, c5, Arith.div_pos (by norm_num)]
  simp only [Arith.div_pos (show (0 : ℝ) < 196 by norm_num), RefFeat.support_apply]
  rw [Arith.sum_mul _ _ (fun s => Finset.sum_nonneg fun p _ => A_nonneg x0 x2 x3 _ d), mul_assoc, Model.proto, ← EReal.coe_mul,
    show (1 / 196 * (1 / 5) : ℝ) = 1 / 980 by norm_num]
  refine congrArg (· * _) ?_
  rw [← (finProdFinEquiv (m := 5) (n := 196)).sum_comp fun s : Fin 980 => A x0 x2 x3 (Model.rowS w s) d, Fintype.sum_prod_type]
  refine Finset.sum_congr rfl fun s _ => Finset.sum_congr rfl fun p _ => congrArg (A x0 x2 x3 · d) (Fin.ext ?_)
  show 980 * w.val + 196 * s.val + p.val = 980 * w.val + (p.val + 196 * s.val)
  omega

/-- The normalised mean of a query. -/
theorem qunit_apply (z : Fin 1) (q : Fin 75) (d : Fin 384) : val_main_v31 (F := Ideal) x0 x1 x2 x3 (ix3 z q d) =
    Model.qmean (Q x1 x2 x3) q d * Model.unit (∑ e, Model.qmean (Q x1 x2 x3) q e * Model.qmean (Q x1 x2 x3) q e) := by
  obtain rfl : z = 0 := Subsingleton.elim _ _
  have e : val_main_v31 (F := Ideal) x0 x1 x2 x3 (ix3 0 q d) = Ideal.div (val_main_v23 (F := Ideal) x0 x1 x2 x3 (ix3 0 q d))
      (max (Ideal.sqrt (∑ e : Fin 384, val_main_v23 (F := Ideal) x0 x1 x2 x3 (ix3 0 q e) * val_main_v23 (F := Ideal) x0 x1 x2 x3 (ix3 0 q e)))
        (Ideal.ofBits .f32 0x2B8CBCCC#32)) := by
    unfold val_main_v31 val_main_v30 val_main_v29 val_main_v28 val_main_v27 val_main_v26 val_main_v25 val_main_v24 val_main_cst_6 val_main_cst_7
    pointwise []
  simp only [qmean_apply] at e
  rw [e, ceps, Arith.div_norm (Finset.sum_nonneg fun e _ => mul_self_nonneg' _)]

/-- A way's normalised prototype. -/
theorem punit_apply (z : Fin 1) (w : Fin 5) (d : Fin 384) : val_main_v39 (F := Ideal) x0 x1 x2 x3 (ix3 z w d) = Model.pn (A x0 x2 x3) w d := by
  obtain rfl : z = 0 := Subsingleton.elim _ _
  have e : val_main_v39 (F := Ideal) x0 x1 x2 x3 (ix3 0 w d) = Ideal.div (val_main_v20 (F := Ideal) x0 x1 x2 x3 (ix3 0 w d))
      (max (Ideal.sqrt (∑ e : Fin 384, val_main_v20 (F := Ideal) x0 x1 x2 x3 (ix3 0 w e) * val_main_v20 (F := Ideal) x0 x1 x2 x3 (ix3 0 w e)))
        (Ideal.ofBits .f32 0x2B8CBCCC#32)) := by
    unfold val_main_v39 val_main_v38 val_main_v37 val_main_v36 val_main_v35 val_main_v34 val_main_v33 val_main_v32 val_main_cst_8 val_main_cst_9
    pointwise []
  simp only [proto_apply] at e
  rw [e, ceps, Arith.div_norm (Finset.sum_nonneg fun e _ => mul_self_nonneg' _), Model.pn]

/-- The cosine of a query and a way. -/
theorem cos_apply (q : Fin 75) (w : Fin 5) : val_main_v40 (F := Ideal) x0 x1 x2 x3 (ix3 0 q w) =
    ∑ d, Model.qmean (Q x1 x2 x3) q d * Model.unit (∑ e, Model.qmean (Q x1 x2 x3) q e * Model.qmean (Q x1 x2 x3) q e) *
      Model.pn (A x0 x2 x3) w d := by
  rw [val_main_v40_apply]
  refine Finset.sum_congr rfl fun d _ => congrArg₂ (· * ·) ?_ ?_
  · exact Eq.trans (congrArg _ (funext fun a => by fin_cases a <;> rfl)) (qunit_apply x0 x1 x2 x3 0 q d)
  · exact Eq.trans (congrArg _ (funext fun a => by fin_cases a <;> rfl)) (punit_apply x0 x1 x2 x3 0 w d)

/-- The squared norm of a query's descriptor. -/
def qsq (q : Fin 75) (p : Fin 196) : EReal := ∑ d, Q x1 x2 x3 (Model.rowQ q p) d * Q x1 x2 x3 (Model.rowQ q p) d

/-- The squared norm of a way's channel. -/
def ssq (w : Fin 5) (d : Fin 384) : EReal := ∑ s, A x0 x2 x3 (Model.rowS w s) d * A x0 x2 x3 (Model.rowS w s) d

/-- The reference's squared norm of a query descriptor. -/
theorem qsq_apply (q : Fin 75) (p : Fin 196) : val_main_v45 (F := Ideal) x0 x1 x2 x3 (ix3 0 q p) = qsq x1 x2 x3 q p := by
  have e : val_main_v45 (F := Ideal) x0 x1 x2 x3 (ix3 0 q p) =
      ∑ d : Fin 384, val_main_v43 (F := Ideal) x0 x1 x2 x3 (ix4 0 q p d) * val_main_v43 (F := Ideal) x0 x1 x2 x3 (ix4 0 q p d) := by
    unfold val_main_v45 val_main_v44 val_main_cst_10
    pointwise []
  rw [e, qsq]
  simp only [RefFeat.query_mix_apply]

/-- The reference's squared norm of a way's channel. -/
theorem ssq_apply (w : Fin 5) (d : Fin 384) : val_main_v51 (F := Ideal) x0 x1 x2 x3 (ix3 0 w d) = ssq x0 x2 x3 w d := by
  have e : val_main_v51 (F := Ideal) x0 x1 x2 x3 (ix3 0 w d) =
      ∑ s : Fin 980, val_main_v42 (F := Ideal) x0 x1 x2 x3 (ix4 0 w s d) * val_main_v42 (F := Ideal) x0 x1 x2 x3 (ix4 0 w s d) := by
    unfold val_main_v51 val_main_v50 val_main_cst_11
    pointwise []
  rw [e, ssq]
  simp only [RefFeat.base_mix_apply]

/-- A query's descriptor over its norm, where the norm is not zero. -/
theorem qn_apply (q : Fin 75) (p : Fin 196) (hq : 0 < qsq x1 x2 x3 q p) (d : Fin 384) : val_main_v49 (F := Ideal) x0 x1 x2 x3 (ix4 0 q p d) =
    Q x1 x2 x3 (Model.rowQ q p) d * Ideal.rsqrt (qsq x1 x2 x3 q p) := by
  have e : val_main_v49 (F := Ideal) x0 x1 x2 x3 (ix4 0 q p d) = Ideal.div (val_main_v43 (F := Ideal) x0 x1 x2 x3 (ix4 0 q p d))
      (Ideal.sqrt (val_main_v45 (F := Ideal) x0 x1 x2 x3 (ix3 0 q p))) := by
    unfold val_main_v49 val_main_v48 val_main_v47 val_main_v46
    pointwise []
  rw [e, qsq_apply, RefFeat.query_mix_apply, Arith.div_sqrt hq]

/-- A way's descriptor with its channels over their norms, where the norm is not zero. -/
theorem sn_apply (w : Fin 5) (d : Fin 384) (hs : 0 < ssq x0 x2 x3 w d) (s : Fin 980) : val_main_v55 (F := Ideal) x0 x1 x2 x3 (ix4 0 w s d) =
    Model.sn (A x0 x2 x3) w s d := by
  have e : val_main_v55 (F := Ideal) x0 x1 x2 x3 (ix4 0 w s d) = Ideal.div (val_main_v42 (F := Ideal) x0 x1 x2 x3 (ix4 0 w s d))
      (Ideal.sqrt (val_main_v51 (F := Ideal) x0 x1 x2 x3 (ix3 0 w d))) := by
    unfold val_main_v55 val_main_v54 val_main_v53 val_main_v52
    pointwise []
  rw [e, ssq_apply, RefFeat.base_mix_apply, Arith.div_sqrt hs]
  rfl

/-- The inner products of a query's descriptor with a way's: the model's, scaled. -/
theorem inner_apply (q : Fin 75) (w : Fin 5) (p : Fin 196) (s : Fin 980) (hq : 0 < qsq x1 x2 x3 q p) (hs : ∀ d, 0 < ssq x0 x2 x3 w d) :
    val_main_v57 (F := Ideal) x0 x1 x2 x3 (ix5 0 q w p s) =
      Model.inner (A x0 x2 x3) w (Q x1 x2 x3 (Model.rowQ q p)) s * Ideal.rsqrt (qsq x1 x2 x3 q p) := by
  have e : val_main_v57 (F := Ideal) x0 x1 x2 x3 (ix5 0 q w p s) = val_main_v56 (F := Ideal) x0 x1 x2 x3 (ix5 0 w s q p) := by
    unfold val_main_v57
    pointwise []
  rw [e, val_main_v56_apply, Model.inner, ← Arith.sum_mul _ _ (fun d => mul_nonneg (Model.sn_nonneg (A_nonneg x0 x2 x3) w s d) (Q_nonneg x1 x2 x3 _ d))]
  refine Finset.sum_congr rfl fun d _ => (congrArg₂ (· * ·) ?_ ?_).trans (mul_assoc _ _ _).symm
  · exact Eq.trans (congrArg _ (funext fun a => by fin_cases a <;> rfl)) (sn_apply x0 x1 x2 x3 w d (hs d) s)
  · exact Eq.trans (congrArg _ (funext fun a => by fin_cases a <;> rfl)) (qn_apply x0 x1 x2 x3 q p hq d)

/-- The `j`-th of a descriptor's five values: the model's, scaled. -/
theorem values_apply (q : Fin 75) (w : Fin 5) (p : Fin 196) (j : Fin 5) (hq : 0 < qsq x1 x2 x3 q p) (hs : ∀ d, 0 < ssq x0 x2 x3 w d) :
    val_main_values (F := Ideal) x0 x1 x2 x3 (ix5 0 q w p j) =
      Model.kth (Model.inner (A x0 x2 x3) w (Q x1 x2 x3 (Model.rowQ q p))) j * Ideal.rsqrt (qsq x1 x2 x3 q p) := by
  have h := RefTop.topK_apply (val_main_v57 (F := Ideal) x0 x1 x2 x3) 0 q w p j
  simp only [inner_apply x0 x1 x2 x3 q w p _ hq hs] at h
  exact Top5.IsKth.unique h (Top5.isKth_mul (Model.rsqrt_nonneg hq.le) (Model.kth_spec _ j j.isLt)) fun _ => Iff.rfl

/-- A ranked value of values that are not negative is not negative. -/
theorem kth_nonneg {v : Fin 980 → EReal} (hv : ∀ s, 0 ≤ v s) (j : Nat) (hj : j < 5) : 0 ≤ Model.kth v j := by
  rw [Model.kth_spec v j hj 0]
  simp [Top5.above, hv]
  omega

/-- The reference's score of a query against a way is the kernel's. -/
theorem score_apply (x4 x5 : S1.Idx → EReal) (z : Fin 1) (q : Fin 75) (w : Fin 5) (hq : ∀ p, 0 < qsq x1 x2 x3 q p) (hs : ∀ d, 0 < ssq x0 x2 x3 w d) :
    val_main_v67 (F := Ideal) x0 x1 x2 x3 x4 x5 (ix3 z q w) = Model.score (A x0 x2 x3) (Q x1 x2 x3) (x4 (ix1 0)) (x5 (ix1 0)) w q := by
  obtain rfl : z = 0 := Subsingleton.elim _ _
  have e : val_main_v67 (F := Ideal) x0 x1 x2 x3 x4 x5 (ix3 0 q w) = x4 (ix1 0) * val_main_v40 (F := Ideal) x0 x1 x2 x3 (ix3 0 q w) +
      x5 (ix1 0) * Ideal.div (val_main_v58 (F := Ideal) x0 x1 x2 x3 (ix3 0 q w)) (Ideal.ofBits .f32 0x40A00000#32) := by
    unfold val_main_v67 val_main_v66 val_main_v65 val_main_v64 val_main_v63 val_main_v62 val_main_v61 val_main_v60 val_main_v59 val_main_cst_13
    pointwise []
  have e58 : val_main_v58 (F := Ideal) x0 x1 x2 x3 (ix3 0 q w) = 0 + ∑ p : Fin 196, ∑ j : Fin 5, val_main_values (F := Ideal) x0 x1 x2 x3 (ix5 0 q w p j) := by
    unfold val_main_v58
    refine (RefTop.sum_apply (val_main_values (F := Ideal) x0 x1 x2 x3) _ q w).trans (congrArg (· + _) ?_)
    exact Ideal.ofBits_zero_f32
  have es (p : Fin 196) : ∑ j : Fin 5, val_main_values (F := Ideal) x0 x1 x2 x3 (ix5 0 q w p j) =
      (∑ j ∈ Finset.range 5, Model.kth (Model.inner (A x0 x2 x3) w (Q x1 x2 x3 (Model.rowQ q p))) j) * Model.rinv (Q x1 x2 x3 (Model.rowQ q p)) := by
    simp only [values_apply x0 x1 x2 x3 q w p _ (hq p) hs]
    rw [Arith.sum_mul _ _ (fun j : Fin 5 => kth_nonneg (Model.inner_nonneg (A_nonneg x0 x2 x3) w (Q_nonneg x1 x2 x3 _)) j j.isLt),
      Finset.sum_range fun j => Model.kth (Model.inner (A x0 x2 x3) w (Q x1 x2 x3 (Model.rowQ q p))) j, Model.rinv]
    exact congrArg (fun y : EReal => _ * y) (if_pos (hq p)).symm
  simp only [es] at e58
  have key (a b c S : EReal) : a + b * (S * c) = a + b * c * S := by rw [mul_comm S, mul_assoc]
  rw [e, cos_apply, c5, Arith.div_pos (by norm_num), e58, zero_add, Model.score]
  exact key _ _ _ _

end Cert.Proof.RefRead

end
-- ==== Proof.Precond.lean ====
/- What the precondition says of the squared norms. -/
module

public import proofs.«01_k».proof.Proof.Gen.Pre_norms_nonzero
public import proofs.«01_k».proof.Proof.RefRead

@[expose] public section

set_option maxRecDepth 16384

noncomputable section

namespace Cert.Proof.Precond

open Idealize.ShloMosaic Idealize.ShloMosaic.TcCoe Idealize.ShloMosaic.Tactic Cert.ReferenceIdeal Cert.ReferenceIdeal.Gen Cert.ReferenceIdeal.Read

/-- A comparison with zero that reads one says that the value is positive. -/
theorem pos_of_ogt {x : EReal} (h : Ideal.cmp .ogt x (Ideal.ofBits .f32 0x00000000#32) = 1#1) : 0 < x := by
  have e0 : Ideal.ofBits .f32 0x00000000#32 = 0 := by simp [Ideal.ofBits, Ideal.ieee]
  rw [e0] at h
  by_contra hx
  have e : Ideal.cmp .ogt x 0 = BitVec.ofBool (decide (0 < x)) := rfl
  rw [e, decide_eq_false hx] at h
  exact absurd h (by decide)

variable (x0 : S1x5x5x3x224x224.Idx → EReal) (x1 : S1x75x3x224x224.Idx → EReal) (x2 : S384x3x16x16.Idx → EReal) (x3 : S384.Idx → EReal)
  (x4 x5 : S1.Idx → EReal)

/-- The precondition's first array compares the reference's squared query norms with zero. -/
theorem fst_eq : (Cert.Pre_norms_nonzero.fn (F := Ideal) x0 x1 x2 x3 x4 x5).1 =
    cmpf .ogt (val_main_v46 (F := Ideal) x0 x1 x2 x3) (broadcastInDim S1x75x196x1 ![] Cert.Pre_norms_nonzero.Gen.bcast_S_S1x75x196x1
      (constant (F := Ideal) S_ .f32 0x00000000#32)) := rfl

/-- The precondition's second array compares the reference's squared support norms with zero. -/
theorem snd_eq : (Cert.Pre_norms_nonzero.fn (F := Ideal) x0 x1 x2 x3 x4 x5).2 =
    cmpf .ogt (val_main_v52 (F := Ideal) x0 x1 x2 x3) (broadcastInDim S1x5x1x384 ![] Cert.Pre_norms_nonzero.Gen.bcast_S_S1x5x1x384
      (constant (F := Ideal) S_ .f32 0x00000000#32)) := rfl

/-- Under the precondition every squared query norm is positive. -/
theorem qsq_pos (h : (Cert.Pre_norms_nonzero.fn (F := Ideal) x0 x1 x2 x3 x4 x5).1 = fun _ => 1#1) (q : Fin 75) (p : Fin 196) :
    0 < RefRead.qsq x1 x2 x3 q p := by
  have e : (Cert.Pre_norms_nonzero.fn (F := Ideal) x0 x1 x2 x3 x4 x5).1 (ix4 0 q p 0) =
      Ideal.cmp .ogt (val_main_v45 (F := Ideal) x0 x1 x2 x3 (ix3 0 q p)) (Ideal.ofBits .f32 0x00000000#32) := by
    rw [fst_eq]
    unfold val_main_v46
    pointwise []
  rw [RefRead.qsq_apply] at e
  exact pos_of_ogt (e.symm.trans (congrFun h _))

/-- Under the precondition every squared support norm is positive. -/
theorem ssq_pos (h : (Cert.Pre_norms_nonzero.fn (F := Ideal) x0 x1 x2 x3 x4 x5).2 = fun _ => 1#1) (w : Fin 5) (d : Fin 384) :
    0 < RefRead.ssq x0 x2 x3 w d := by
  have e : (Cert.Pre_norms_nonzero.fn (F := Ideal) x0 x1 x2 x3 x4 x5).2 (ix4 0 w 0 d) =
      Ideal.cmp .ogt (val_main_v51 (F := Ideal) x0 x1 x2 x3 (ix3 0 w d)) (Ideal.ofBits .f32 0x00000000#32) := by
    rw [snd_eq]
    unfold val_main_v52
    pointwise []
  rw [RefRead.ssq_apply] at e
  exact pos_of_ogt (e.symm.trans (congrFun h _))

end Cert.Proof.Precond

end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Out
public import proofs.«01_k».proof.Proof.Run
public import proofs.«01_k».proof.Proof.Precond
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.ShloMosaic.Tactic Idealize.SL.Sem

/-- The reference leaves its arguments as they were and its counters at zero. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The four named constants denote the rationals the kernel's literals were rounded from. -/
theorem preserves : Cert.preserves_Kernel_KernelIdeal :=
  ⟨IdealRules.named_const.statement Cert.KernelIdeal.κ "inv_shw" .f32 0x3A85BF37#32 _ rfl,
   IdealRules.named_const.statement Cert.KernelIdeal.κ "eps_sq" .f32 0x179ABE15#32 _ rfl,
   IdealRules.named_const.statement Cert.KernelIdeal.κ "inv_hw" .f32 0x3BA72F05#32 _ rfl,
   IdealRules.named_const.statement Cert.KernelIdeal.κ "inv_k" .f32 0x3E4CCCCD#32 _ rfl⟩

/-- On memories that agree at the arguments and meet the precondition, the reference's result array is the kernel's. -/
theorem value_eq (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) (hpre : Cert.Pre_KernelIdeal_norms_nonzero m) :
    Cert.ReferenceIdeal.Read.val_main_v67 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5)) =
      Cert.KernelIdeal.Gen.W7 m ρ c Cert.KernelIdeal.main_v21 := by
  funext i
  obtain ⟨z, q, w, rfl⟩ : ∃ (z : Fin 1) (q : Fin 75) (w : Fin 5), i = ix3 z q w := ⟨i 0, i 1, i 2, by funext a; fin_cases a <;> rfl⟩
  exact (RefRead.score_apply _ _ _ _ _ _ z q w (Precond.qsq_pos _ _ _ _ _ _ (hpre c).1 q) (Precond.ssq_pos _ _ _ _ _ _ (hpre c).2 w)).trans
    (Out.main_v21_eq m ρ c z q w).symm

/-- The kernel and the reference end with the same result array. -/
theorem algebraic : Cert.algebraic_KernelIdeal_ReferenceIdeal_pre_norms_nonzero := by
  intro m ρ m' ρ' hpre hagree
  refine ⟨fun c => Cert.KernelIdeal.Gen.W7 m ρ c Cert.KernelIdeal.main_v21, Run.run m ρ, ?_⟩
  refine (θ_run Cert.ReferenceIdeal.defs _ _).mono (fun _ h c => ⟨(h c).1.trans ?_, (h c).2⟩) (Cert.ReferenceIdeal.Value.run (F := Ideal) m' ρ')
  obtain ⟨h0, h1, h2, h3, h4, h5⟩ := hagree c
  rw [Cert.ReferenceIdeal.Read.val_main_v67_eq, h0, h1, h2, h3, h4, h5]
  exact value_eq m ρ c hpre

/-- All the claims of the certificate. -/
theorem claim : Cert.Claim :=
  ⟨Cert.Kernel.Gen.facts, Cert.KernelIdeal.Gen.facts, Cert.ReferenceIdeal.Gen.facts, Cert.Pre_norms_nonzero.Gen.facts,
    fun m ρ _ => Cert.Kernel.Gen.frame m ρ, fun m ρ _ => Cert.KernelIdeal.Gen.frame m ρ, fun m ρ _ => Cert.KernelIdeal.Gen.frame m ρ,
    frame_ri, fun m ρ _ => frame_ri m ρ trivial, preserves, algebraic⟩

end Cert.Proof

end
